-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x8960 : Shape := ⟨3, ![3, 4096, 8960]⟩
abbrev S1536x35x2x64 : Shape := ⟨4, ![1536, 35, 2, 64]⟩
abbrev S1536x35x2x32 : Shape := ⟨4, ![1536, 35, 2, 32]⟩
abbrev S1536x35x16 : Shape := ⟨3, ![1536, 35, 16]⟩
abbrev S1536x35 : Shape := ⟨2, ![1536, 35]⟩
abbrev S8960 : Shape := ⟨1, ![8960]⟩
abbrev S1536 : Shape := ⟨1, ![1536]⟩
abbrev S35x2x64x1536 : Shape := ⟨4, ![35, 2, 64, 1536]⟩
abbrev S35x2x32x1536 : Shape := ⟨4, ![35, 2, 32, 1536]⟩
abbrev S35x16x1536 : Shape := ⟨3, ![35, 16, 1536]⟩
abbrev S35x1536 : Shape := ⟨2, ![35, 1536]⟩
abbrev S1x8960 : Shape := ⟨2, ![1, 8960]⟩
abbrev S1x1536 : Shape := ⟨2, ![1, 1536]⟩
abbrev S12288x8960 : Shape := ⟨2, ![12288, 8960]⟩
abbrev S12288x1536 : Shape := ⟨2, ![12288, 1536]⟩
abbrev S256x8960 : Shape := ⟨2, ![256, 8960]⟩
abbrev S256x1536 : Shape := ⟨2, ![256, 1536]⟩
abbrev S16x1536 : Shape := ⟨2, ![16, 1536]⟩
abbrev S8960x1536 : Shape := ⟨2, ![8960, 1536]⟩
abbrev S1x16x1536 : Shape := ⟨3, ![1, 16, 1536]⟩
abbrev S1x1x64x1536 : Shape := ⟨4, ![1, 1, 64, 1536]⟩
abbrev S64x1536 : Shape := ⟨2, ![64, 1536]⟩
abbrev S1x1x32x1536 : Shape := ⟨4, ![1, 1, 32, 1536]⟩
abbrev S32x1536 : Shape := ⟨2, ![32, 1536]⟩
abbrev S8x1536 : Shape := ⟨2, ![8, 1536]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S3x4096x8960, .bf16⟩
  | .hbm, ⟨1, _⟩ => ⟨S1536x35x2x64, .i8⟩
  | .hbm, ⟨2, _⟩ => ⟨S1536x35x2x32, .i8⟩
  | .hbm, ⟨3, _⟩ => ⟨S1536x35x16, .i8⟩
  | .hbm, ⟨4, _⟩ => ⟨S1536x35, .f16⟩
  | .hbm, ⟨5, _⟩ => ⟨S8960, .f32⟩
  | .hbm, ⟨6, _⟩ => ⟨S1536, .f32⟩
  | .hbm, ⟨7, _⟩ => ⟨S35x2x64x1536, .i8⟩
  | .hbm, ⟨8, _⟩ => ⟨S35x2x32x1536, .i8⟩
  | .hbm, ⟨9, _⟩ => ⟨S35x16x1536, .i8⟩
  | .hbm, ⟨10, _⟩ => ⟨S35x1536, .f16⟩
  | .hbm, ⟨11, _⟩ => ⟨S1x8960, .f32⟩
  | .hbm, ⟨12, _⟩ => ⟨S1x1536, .f32⟩
  | .hbm, ⟨13, _⟩ => ⟨S12288x8960, .bf16⟩
  | .hbm, ⟨14, _⟩ => ⟨S12288x1536, .bf16⟩
  | .local _ .vmem, ⟨0, _⟩ => ⟨S256x8960, .bf16⟩
  | .local _ .vmem, ⟨1, _⟩ => ⟨S256x8960, .bf16⟩
  | .local _ .vmem, ⟨2, _⟩ => ⟨S35x2x64x1536, .i8⟩
  | .local _ .vmem, ⟨3, _⟩ => ⟨S35x2x32x1536, .i8⟩
  | .local _ .vmem, ⟨4, _⟩ => ⟨S35x16x1536, .i8⟩
  | .local _ .vmem, ⟨5, _⟩ => ⟨S35x1536, .f16⟩
  | .local _ .vmem, ⟨6, _⟩ => ⟨S1x8960, .f32⟩
  | .local _ .vmem, ⟨7, _⟩ => ⟨S1x1536, .f32⟩
  | .local _ .vmem, ⟨8, _⟩ => ⟨S256x1536, .bf16⟩
  | .local _ .vmem, ⟨9, _⟩ => ⟨S256x1536, .bf16⟩
  | .local _ .vmem, ⟨10, _⟩ => ⟨S16x1536, .f32⟩
  | .local _ .vmem, ⟨11, _⟩ => ⟨S8960x1536, .bf16⟩
  | .local _ .vmem, ⟨12, _⟩ => ⟨S256x8960, .bf16⟩
  | _, _ => ⟨S3x4096x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c35_i32 : BitVec 32 := 35#32
  let v33 : BitVec 32 := Scalar.addi c0_i32_17 c35_i32
  let c1_i32 : BitVec 32 := 1#32
  ⟨c0_i32_17, v33, c1_i32⟩
def k0_off1 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let v34 : Index := Scalar.indexCast arg12
  let c0_19 : Index := 0#32
  ![v34.toNat, 0]
def k0_off2 (k0_t1 : Fin k0_t1_loop.trips) : Fin 3 → Nat :=
  let c0_i32_17 : BitVec 32 := 0#32
  let c1_i32 : BitVec 32 := 1#32
  let arg12 : BitVec 32 := Scf.iv c0_i32_17 c1_i32 k0_t1
  let v38 : Index := Scalar.indexCast arg12
  let c0_20 : Index := 0#32
  let c0_21 : Index := 0#32
  ![v38.toNat, 0, 0]
def k0_off3 (k0_t1 : Fin k0_t1_loop.trips) : Fin 4 → Nat :=
  let c0_i32_17 : BitVec 32 := 0#32
  let c1_i32 : BitVec 32 := 1#32
  let arg12 : BitVec 32 := Scf.iv c0_i32_17 c1_i32 k0_t1
  let v47 : Index := Scalar.indexCast arg12
  let c0_24 : Index := 0#32
  let c0_25 : Index := 0#32
  let c0_26 : Index := 0#32
  ![v47.toNat, 0, 0, 0]
def k0_off4 (k0_t1 : Fin k0_t1_loop.trips) : Fin 4 → Nat :=
  let c0_i32_17 : BitVec 32 := 0#32
  let c1_i32 : BitVec 32 := 1#32
  let arg12 : BitVec 32 := Scf.iv c0_i32_17 c1_i32 k0_t1
  let v51 : Index := Scalar.indexCast arg12
  let c0_27 : Index := 0#32
  let c0_28 : Index := 0#32
  let c0_29 : Index := 0#32
  ![v51.toNat, 0, 0, 0]
def k0_mult1 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32 : BitVec 32 := 256#32
  let v72 : BitVec 32 := Scalar.muli arg12 c256_i32
  let c0_i32_34 : BitVec 32 := 0#32
  let v73 : BitVec 32 := Scalar.addi v72 c0_i32_34
  v73
def k0_off5 (k0_t1 : Fin k0_t1_loop.trips) (c0_i32_34 : BitVec 32) : Fin 2 → Nat :=
  let c0_i32_17 : BitVec 32 := 0#32
  let c1_i32 : BitVec 32 := 1#32
  let arg12 : BitVec 32 := Scf.iv c0_i32_17 c1_i32 k0_t1
  let c256_i32 : BitVec 32 := 256#32
  let v72 : BitVec 32 := Scalar.muli arg12 c256_i32
  let v73 : BitVec 32 := Scalar.addi v72 c0_i32_34
  let v74 : BitVec 32 := v73
  let v78 : Index := Scalar.indexCast v74
  let c0_35 : Index := 0#32
  ![v78.toNat, 0]
def k0_mult2 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_37 : BitVec 32 := 256#32
  let v85 : BitVec 32 := Scalar.muli arg12 c256_i32_37
  let c16_i32 : BitVec 32 := 16#32
  let v86 : BitVec 32 := Scalar.addi v85 c16_i32
  v86
def k0_mult3 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_44 : BitVec 32 := 256#32
  let v112 : BitVec 32 := Scalar.muli arg12 c256_i32_44
  let c32_i32 : BitVec 32 := 32#32
  let v113 : BitVec 32 := Scalar.addi v112 c32_i32
  v113
def k0_mult4 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_47 : BitVec 32 := 256#32
  let v125 : BitVec 32 := Scalar.muli arg12 c256_i32_47
  let c48_i32 : BitVec 32 := 48#32
  let v126 : BitVec 32 := Scalar.addi v125 c48_i32
  v126
def k0_mult5 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_55 : BitVec 32 := 256#32
  let v152 : BitVec 32 := Scalar.muli arg12 c256_i32_55
  let c64_i32 : BitVec 32 := 64#32
  let v153 : BitVec 32 := Scalar.addi v152 c64_i32
  v153
def k0_mult6 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_58 : BitVec 32 := 256#32
  let v165 : BitVec 32 := Scalar.muli arg12 c256_i32_58
  let c80_i32 : BitVec 32 := 80#32
  let v166 : BitVec 32 := Scalar.addi v165 c80_i32
  v166
def k0_mult7 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_66 : BitVec 32 := 256#32
  let v192 : BitVec 32 := Scalar.muli arg12 c256_i32_66
  let c96_i32 : BitVec 32 := 96#32
  let v193 : BitVec 32 := Scalar.addi v192 c96_i32
  v193
def k0_mult8 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_69 : BitVec 32 := 256#32
  let v205 : BitVec 32 := Scalar.muli arg12 c256_i32_69
  let c112_i32 : BitVec 32 := 112#32
  let v206 : BitVec 32 := Scalar.addi v205 c112_i32
  v206
def k0_off6 (k0_t1 : Fin k0_t1_loop.trips) : Fin 4 → Nat :=
  let c0_i32_17 : BitVec 32 := 0#32
  let c1_i32 : BitVec 32 := 1#32
  let arg12 : BitVec 32 := Scf.iv c0_i32_17 c1_i32 k0_t1
  let v215 : Index := Scalar.indexCast arg12
  let c1_71 : Index := 1#32
  let c0_72 : Index := 0#32
  let c0_73 : Index := 0#32
  ![v215.toNat, 1, 0, 0]
def k0_off7 (k0_t1 : Fin k0_t1_loop.trips) : Fin 4 → Nat :=
  let c0_i32_17 : BitVec 32 := 0#32
  let c1_i32 : BitVec 32 := 1#32
  let arg12 : BitVec 32 := Scf.iv c0_i32_17 c1_i32 k0_t1
  let v219 : Index := Scalar.indexCast arg12
  let c1_74 : Index := 1#32
  let c0_75 : Index := 0#32
  let c0_76 : Index := 0#32
  ![v219.toNat, 1, 0, 0]
def k0_mult9 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_83 : BitVec 32 := 256#32
  let v240 : BitVec 32 := Scalar.muli arg12 c256_i32_83
  let c128_i32 : BitVec 32 := 128#32
  let v241 : BitVec 32 := Scalar.addi v240 c128_i32
  v241
def k0_mult10 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_86 : BitVec 32 := 256#32
  let v253 : BitVec 32 := Scalar.muli arg12 c256_i32_86
  let c144_i32 : BitVec 32 := 144#32
  let v254 : BitVec 32 := Scalar.addi v253 c144_i32
  v254
def k0_mult11 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_94 : BitVec 32 := 256#32
  let v280 : BitVec 32 := Scalar.muli arg12 c256_i32_94
  let c160_i32 : BitVec 32 := 160#32
  let v281 : BitVec 32 := Scalar.addi v280 c160_i32
  v281
def k0_mult12 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_97 : BitVec 32 := 256#32
  let v293 : BitVec 32 := Scalar.muli arg12 c256_i32_97
  let c176_i32 : BitVec 32 := 176#32
  let v294 : BitVec 32 := Scalar.addi v293 c176_i32
  v294
def k0_mult13 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_105 : BitVec 32 := 256#32
  let v320 : BitVec 32 := Scalar.muli arg12 c256_i32_105
  let c192_i32 : BitVec 32 := 192#32
  let v321 : BitVec 32 := Scalar.addi v320 c192_i32
  v321
def k0_mult14 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_108 : BitVec 32 := 256#32
  let v333 : BitVec 32 := Scalar.muli arg12 c256_i32_108
  let c208_i32 : BitVec 32 := 208#32
  let v334 : BitVec 32 := Scalar.addi v333 c208_i32
  v334
def k0_mult15 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_116 : BitVec 32 := 256#32
  let v360 : BitVec 32 := Scalar.muli arg12 c256_i32_116
  let c224_i32 : BitVec 32 := 224#32
  let v361 : BitVec 32 := Scalar.addi v360 c224_i32
  v361
def k0_mult16 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c256_i32_119 : BitVec 32 := 256#32
  let v373 : BitVec 32 := Scalar.muli arg12 c256_i32_119
  let c240_i32 : BitVec 32 := 240#32
  let v374 : BitVec 32 := Scalar.addi v373 c240_i32
  v374
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S35x2x64x1536 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S35x2x32x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S35x16x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S35x1536 .f16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S3x4096x8960 : Shape := ⟨3, ![3, 4096, 8960]⟩
abbrev S1536x35x2x64 : Shape := ⟨4, ![1536, 35, 2, 64]⟩
abbrev S1536x35x2x32 : Shape := ⟨4, ![1536, 35, 2, 32]⟩
abbrev S1536x35x16 : Shape := ⟨3, ![1536, 35, 16]⟩
abbrev S1536x35 : Shape := ⟨2, ![1536, 35]⟩
abbrev S8960 : Shape := ⟨1, ![8960]⟩
abbrev S1536 : Shape := ⟨1, ![1536]⟩
abbrev S_ : Shape := ⟨0, ![]⟩
abbrev S1536x35x2x128 : Shape := ⟨4, ![1536, 35, 2, 128]⟩
abbrev S1536x35x2x4x32 : Shape := ⟨5, ![1536, 35, 2, 4, 32]⟩
abbrev S4 : Shape := ⟨1, ![4]⟩
abbrev S4x1 : Shape := ⟨2, ![4, 1]⟩
abbrev S1536x35x2x1x32 : Shape := ⟨5, ![1536, 35, 2, 1, 32]⟩
abbrev S1x1x1x4x1 : Shape := ⟨5, ![1, 1, 1, 4, 1]⟩
abbrev S1536x35x16x16 : Shape := ⟨4, ![1536, 35, 16, 16]⟩
abbrev S12288x8960 : Shape := ⟨2, ![12288, 8960]⟩
abbrev S12288x1536 : Shape := ⟨2, ![12288, 1536]⟩
abbrev S12288 : Shape := ⟨1, ![12288]⟩
abbrev S12288x1 : Shape := ⟨2, ![12288, 1]⟩
abbrev S1x8960 : Shape := ⟨2, ![1, 8960]⟩
abbrev S1536x35x1 : Shape := ⟨3, ![1536, 35, 1]⟩
abbrev S1536x35x16x1 : Shape := ⟨4, ![1536, 35, 16, 1]⟩
abbrev S1536x8960 : Shape := ⟨2, ![1536, 8960]⟩
abbrev S1x1536 : Shape := ⟨2, ![1, 1536]⟩

abbrev nBuf : Space → Nat
  | .hbm => 37
  | .vmem => 7
  | .smem => 0
  | _ => 0

abbrev bufTy : (tb : Table) → Fin (tcTables nBuf tb) → BufTy
  | .hbm, ⟨0, _⟩ => ⟨S3x4096x8960, .bf16⟩
  | .hbm, ⟨1, _⟩ => ⟨S1536x35x2x64, .i8⟩
  | .hbm, ⟨2, _⟩ => ⟨S1536x35x2x32, .i8⟩
  | .hbm, ⟨3, _⟩ => ⟨S1536x35x16, .i8⟩
  | .hbm, ⟨4, _⟩ => ⟨S1536x35, .f16⟩
  | .hbm, ⟨5, _⟩ => ⟨S8960, .f32⟩
  | .hbm, ⟨6, _⟩ => ⟨S1536, .f32⟩
  | .hbm, ⟨7, _⟩ => ⟨S1536x35x2x64, .i32⟩
  | .hbm, ⟨8, _⟩ => ⟨S1536x35x2x32, .i32⟩
  | .hbm, ⟨9, _⟩ => ⟨S_, .i32⟩
  | .hbm, ⟨10, _⟩ => ⟨S1536x35x2x64, .i32⟩
  | .hbm, ⟨11, _⟩ => ⟨S1536x35x2x64, .i32⟩
  | .hbm, ⟨12, _⟩ => ⟨S_, .i32⟩
  | .hbm, ⟨13, _⟩ => ⟨S1536x35x2x64, .i32⟩
  | .hbm, ⟨14, _⟩ => ⟨S1536x35x2x64, .i32⟩
  | .hbm, ⟨15, _⟩ => ⟨S1536x35x2x128, .i32⟩
  | .hbm, ⟨16, _⟩ => ⟨S1536x35x2x4x32, .i32⟩
  | .hbm, ⟨17, _⟩ => ⟨S4, .i32⟩
  | .hbm, ⟨18, _⟩ => ⟨S4x1, .i32⟩
  | .hbm, ⟨19, _⟩ => ⟨S_, .i32⟩
  | .hbm, ⟨20, _⟩ => ⟨S4x1, .i32⟩
  | .hbm, ⟨21, _⟩ => ⟨S4x1, .i32⟩
  | .hbm, ⟨22, _⟩ => ⟨S1536x35x2x1x32, .i32⟩
  | .hbm, ⟨23, _⟩ => ⟨S1x1x1x4x1, .i32⟩
  | .hbm, ⟨24, _⟩ => ⟨S1536x35x2x4x32, .i32⟩
  | .hbm, ⟨25, _⟩ => ⟨S1536x35x2x4x32, .i32⟩
  | .hbm, ⟨26, _⟩ => ⟨S1536x35x2x4x32, .i32⟩
  | .hbm, ⟨27, _⟩ => ⟨S_, .i32⟩
  | .hbm, ⟨28, _⟩ => ⟨S1536x35x2x4x32, .i32⟩
  | .hbm, ⟨29, _⟩ => ⟨S1536x35x2x4x32, .i32⟩
  | .hbm, ⟨30, _⟩ => ⟨S_, .i32⟩
  | .hbm, ⟨31, _⟩ => ⟨S1536x35x2x4x32, .i32⟩
  | .hbm, ⟨32, _⟩ => ⟨S1536x35x2x4x32, .i32⟩
  | .hbm, ⟨33, _⟩ => ⟨S1536x35x2x4x32, .i32⟩
  | .hbm, ⟨34, _⟩ => ⟨S1536x35x16x16, .i32⟩
  | .hbm, ⟨35, _⟩ => ⟨S12288x8960, .bf16⟩
  | .hbm, ⟨36, _⟩ => ⟨S12288x1536, .bf16⟩
  | .local _ .vmem, ⟨0, _⟩ => ⟨S12288x8960, .bf16⟩
  | .local _ .vmem, ⟨1, _⟩ => ⟨S1536x35x16x16, .i32⟩
  | .local _ .vmem, ⟨2, _⟩ => ⟨S1536x35x16, .i8⟩
  | .local _ .vmem, ⟨3, _⟩ => ⟨S1536x35, .f16⟩
  | .local _ .vmem, ⟨4, _⟩ => ⟨S8960, .f32⟩
  | .local _ .vmem, ⟨5, _⟩ => ⟨S1536, .f32⟩
  | .local _ .vmem, ⟨6, _⟩ => ⟨S12288x1536, .bf16⟩
  | _, _ => ⟨S3x4096x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x8960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x35x16x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x35x16 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x35 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Codes.lean ====
/- The six-bit codes: how one byte of a packed low word and one byte of a packed high word give a code, and the same
   computed on 32-bit words of four bytes each. Nothing here mentions a program. -/
module

public import Idealize.ShloMosaic.Lib.BitcastFour
public import Idealize.ShloMosaic.Lib.Pointwise

@[expose] public section

namespace Cert.Codes

open Idealize.ShloMosaic

/-- The code of field `f` (0 to 3): a nibble of the low byte (its low one for fields 0 and 1, its high one for 2 and 3)
    under two bits of the high byte. -/
def codeByte (f : Nat) (lo hi : BitVec 8) : BitVec 8 :=
  ((lo >>> (4 * (f / 2))) &&& 15#8) ||| (((hi >>> (2 * f)) &&& 3#8) <<< 4)

/-- Byte `b` of a word is the byte `x`. -/
def IsByte (b : Nat) (w : BitVec 32) (x : BitVec 8) : Prop := ∀ q < 8, w.getLsbD (8 * b + q) = x.getLsbD q

/-- Four codes at once, in the four bytes of a word: the low word shifted and masked to a nibble of each byte, the high
    word shifted and masked to the two bits above it. -/
def codeWord (f : Nat) (wl wh : BitVec 32) : BitVec 32 :=
  IntOp.ori (IntOp.andi (IntOp.shrui .vector wl (BitVec.ofNat 32 (4 * (f / 2)))) 252645135#32)
    (IntOp.andi (if f = 3 then IntOp.shrui .vector wh 2#32 else IntOp.shli .vector wh (BitVec.ofNat 32 (4 - 2 * f)))
      808464432#32)

/-- Byte `b` of `codeWord` is `codeByte` of the two words' bytes `b`. -/
theorem isByte_codeWord {f b : Nat} (hf : f < 4) (hb : b < 4) {wl wh : BitVec 32} {lo hi : BitVec 8}
    (hl : IsByte b wl lo) (hh : IsByte b wh hi) : IsByte b (codeWord f wl wh) (codeByte f lo hi) := by
  intro q hq
  have l0 := hl q hq
  have l4 := hl (q + 4)
  have h0 := hh (q - 4) (by omega)
  have h2 := hh (q - 2) (by omega)
  have h4 := hh q hq
  have h6 := hh (q + 2)
  simp only [IntOp.ori, IntOp.andi, IntOp.shrui, IntOp.shli, codeByte, codeWord]
  interval_cases f <;> interval_cases b <;> interval_cases q <;> simp_all

/-- Row `r` of words read as rows of bytes is byte `r % 4` of word row `r / 4`. -/
theorem bitcast_32_8_ix2 {R r n : Nat} (w : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4)
    (x : BitVec 8) (hx : IsByte (p.val % 4) (w (ix2 a l)) x) : bitcast ⟨2, ![R, n]⟩ 8 w h (ix2 p l) = x := by
  apply BitVec.eq_of_getLsbD_eq
  intro q hq
  rw [ix2_eq_valueIdx, bitcast_getLsbD w h _ q hq (by decide), ← hx q hq]
  have hr : Shape.row (⟨2, ![R, n]⟩ : Shape) (ValueIdx.ix2 p l) = p.val := rfl
  have em : (Shape.row (⟨2, ![R, n]⟩ : Shape) (ValueIdx.ix2 p l) * 8 + q) % 32 = 8 * (p.val % 4) + q := by rw [hr]; omega
  rw [em]
  congr 2
  funext c
  match c with
  | ⟨0, _⟩ => exact Fin.ext ((h.srcIdx_row _ _ _ ⟨0, Nat.zero_lt_two⟩ rfl).trans (show _ = a.val by rw [ha, hr]; omega))
  | ⟨1, _⟩ => exact Fin.ext (h.srcIdx_other _ _ _ ⟨1, Nat.one_lt_two⟩ (by show ¬ 1 + 2 = 2; omega))

/-- Rows of bytes read as rows of words: byte `b` of word row `a` is byte row `4 a + b`. -/
theorem isByte_bitcast {R r n : Nat} (x : (⟨2, ![R, n]⟩ : Shape).Idx → BitVec 8)
    (h : (⟨2, ![R, n]⟩ : Shape).Bitcasts 8 ⟨2, ![r, n]⟩ 32) (a : Fin r) (l : Fin n) (b : Nat) (hb : b < 4) (p : Fin R)
    (hp : p.val = 4 * a.val + b) : IsByte b (bitcast ⟨2, ![r, n]⟩ 32 x h (ix2 a l)) (x (ix2 p l)) := by
  intro q hq
  rw [ix2_eq_valueIdx, ix2_eq_valueIdx, bitcast_8_32_getLsbD_ix2 x h a l (8 * b + q) (by omega) p (by omega)]
  congr 1
  omega

end Cert.Codes

end
-- ==== Proof.Decode.lean ====
/- What one trip of the kernel's decoding loop stores, read element by element: the weight `decoded` from the packed
   codes, the integer scales and the block factors. -/
module

public import proofs.«01_k».proof.Proof.Gen.Kernel.Skeleton
public import proofs.«01_k».proof.Proof.Codes

@[expose] public section

set_option maxRecDepth 16384

noncomputable section

namespace Cert.Kernel.Run

open Idealize.ShloMosaic Cert.Kernel Cert.Kernel.Gen Cert.Codes

variable {F : FTy → Type} [FloatOps F]

/-- A code as a number: the code less the offset 32. -/
def codeEl (f : Nat) (lo hi : BitVec 8) : F .bf16 :=
  FloatOps.subf (FloatOps.sitofp .bf16 (codeByte f lo hi)) (Scalar.ofBits .bf16 0x4200#16)

/-- A scale: the block's factor times the group's integer scale. -/
def scaleEl (sc : BitVec 8) (d : F .f16) : F .f32 :=
  FloatOps.mulf (FloatOps.extf .f32 bitsLt_f16_f32 d) (FloatOps.sitofp .f32 sc)

/-- A weight: the code as a number times the scale rounded to `bf16`. -/
def weightEl (f : Nat) (lo hi sc : BitVec 8) (d : F .f16) : F .bf16 :=
  FloatOps.mulf (codeEl f lo hi) (FloatOps.truncf .bf16 bitsLt_bf16_f32 (scaleEl sc d))

/-- The decoded weight matrix, input feature by output feature: row `e` lies in block `e / 256`, half `e / 128 % 2`, field
    `e / 32 % 4` and scale group `e / 16 % 16`. -/
def decoded (ql : Vec F S35x2x64x1536 .i8) (qh : Vec F S35x2x32x1536 .i8) (sc : Vec F S35x16x1536 .i8)
    (d : Vec F S35x1536 .f16) : Vec F S8960x1536 .bf16 := fun y =>
  have hy : (y 0).val < 8960 := (y 0).isLt
  weightEl ((y 0).val / 32 % 4)
    (ql (ix4 ⟨(y 0).val / 256, by omega⟩ ⟨(y 0).val / 128 % 2, by omega⟩ ⟨(y 0).val % 64, by omega⟩ (y 1)))
    (qh (ix4 ⟨(y 0).val / 256, by omega⟩ ⟨(y 0).val / 128 % 2, by omega⟩ ⟨(y 0).val % 32, by omega⟩ (y 1)))
    (sc (ix3 ⟨(y 0).val / 256, by omega⟩ ⟨(y 0).val / 16 % 16, by omega⟩ (y 1)))
    (d (ix2 ⟨(y 0).val / 256, by omega⟩ (y 1)))

/-- The words that the loop forms from a trip's words, for field `f`. -/
def fieldWords (f : Nat) (hf : f < 4) (lo : IVec S16x1536 32) (hi : IVec S8x1536 32) : IVec S8x1536 32 := fun j =>
  have hj : (j 0).val < 8 := (j 0).isLt
  codeWord f (lo (ix2 ⟨8 * (f % 2) + (j 0).val, by omega⟩ (j 1))) (hi j)

/-- Those words read as rows of bytes are the codes, element by element. -/
theorem fieldWords_apply (f : Nat) (hf : f < 4) (lo : Vec F S1x1x64x1536 .i8) (hi : Vec F S1x1x32x1536 .i8) (r : Fin 32)
    (l : Fin 1536) (h : S8x1536.Bitcasts 32 S32x1536 8) :
    bitcast S32x1536 8 (fieldWords f hf (k0_pay6 lo) (k0_pay7 hi)) h (ix2 r l)
      = codeByte f (lo (ix4 0 0 ⟨32 * (f % 2) + r.val, by omega⟩ l)) (hi (ix4 0 0 r l)) := by
  refine bitcast_32_8_ix2 _ h r l ⟨r.val / 4, by omega⟩ rfl _ ?_
  refine isByte_codeWord hf (by omega) ?_ ?_
  · have e := isByte_bitcast (shapeCast S64x1536 lo shapeCasts_S1x1x64x1536_S64x1536) bitcasts_S64x1536_w8_S16x1536_w32
      ⟨8 * (f % 2) + r.val / 4, by omega⟩ l (r.val % 4) (by omega) ⟨32 * (f % 2) + r.val, by omega⟩ (by dsimp only; omega)
    have e' : shapeCast S64x1536 lo shapeCasts_S1x1x64x1536_S64x1536 (ix2 ⟨32 * (f % 2) + r.val, by omega⟩ l)
        = lo (ix4 0 0 ⟨32 * (f % 2) + r.val, by omega⟩ l) := by pointwise
    rw [e'] at e
    exact e
  · have e := isByte_bitcast (shapeCast S32x1536 hi shapeCasts_S1x1x32x1536_S32x1536) bitcasts_S32x1536_w8_S8x1536_w32
      ⟨r.val / 4, by omega⟩ l (r.val % 4) (by omega) r (by dsimp only; omega)
    have e' : shapeCast S32x1536 hi shapeCasts_S1x1x32x1536_S32x1536 (ix2 r l) = hi (ix4 0 0 r l) := by pointwise
    rw [e'] at e
    exact e

/-- The numbers of the codes of field `f` of a half: what every field's payload computes. -/
def field (f : Nat) (hf : f < 4) (lo : IVec S16x1536 32) (hi : IVec S8x1536 32) : FVec F S32x1536 .bf16 :=
  subf (sitofp .bf16 (bitcast S32x1536 8 (fieldWords f hf lo hi) bitcasts_S8x1536_w32_S32x1536_w8))
    (broadcast S32x1536 (Scalar.ofBits .bf16 0x4200#16))

theorem field_apply (f : Nat) (hf : f < 4) (lo : Vec F S1x1x64x1536 .i8) (hi : Vec F S1x1x32x1536 .i8) (r : Fin 32)
    (l : Fin 1536) : field (F := F) f hf (k0_pay6 lo) (k0_pay7 hi) (ix2 r l)
      = codeEl f (lo (ix4 0 0 ⟨32 * (f % 2) + r.val, by omega⟩ l)) (hi (ix4 0 0 r l)) := by
  unfold field codeEl
  rw [← fieldWords_apply f hf lo hi r l bitcasts_S8x1536_w32_S32x1536_w8]
  rfl

/-- The first eight word rows, -/
theorem slice0 (x : IVec S16x1536 32) : extractStridedSlice S8x1536 ![0, 0] x slices_S16x1536_o0_0_S8x1536
    = fun j => x (ix2 ⟨0 + (j 0).val, by have : (j 0).val < 8 := (j 0).isLt; omega⟩ (j 1)) := by
  funext j; pointwise

/-- and the last eight. -/
theorem slice8 (x : IVec S16x1536 32) : extractStridedSlice S8x1536 ![8, 0] x slices_S16x1536_o8_0_S8x1536
    = fun j => x (ix2 ⟨8 + (j 0).val, by have : (j 0).val < 8 := (j 0).isLt; omega⟩ (j 1)) := by
  funext j; pointwise

/-- The field's numbers from any words equal to the field's. -/
theorem field_of (f : Nat) (hf : f < 4) (lo : IVec S16x1536 32) (hi w : IVec S8x1536 32)
    (hw : w = fieldWords f hf lo hi) : subf (sitofp .bf16 (bitcast S32x1536 8 w bitcasts_S8x1536_w32_S32x1536_w8))
      (broadcast S32x1536 (Scalar.ofBits .bf16 0x4200#16)) = field (F := F) f hf lo hi := by
  subst hw; rfl

/-! The eight payloads that form codes are the fields 0 to 3 of the two halves. -/

theorem pay8_eq (lo : Vec F S1x1x64x1536 .i8) (hi : Vec F S1x1x32x1536 .i8) :
    k0_pay8 lo hi = field 0 (by decide) (k0_pay6 lo) (k0_pay7 hi) :=
  field_of 0 _ _ _ _ (by rw [slice0]; rfl)
theorem pay12_eq (lo : IVec S16x1536 32) (hi : IVec S8x1536 32) : k0_pay12 (F := F) lo hi = field 1 (by decide) lo hi :=
  field_of 1 _ _ _ _ (by rw [slice8]; rfl)
theorem pay16_eq (lo : IVec S16x1536 32) (hi : IVec S8x1536 32) : k0_pay16 (F := F) lo hi = field 2 (by decide) lo hi :=
  field_of 2 _ _ _ _ (by rw [slice0]; rfl)
theorem pay20_eq (lo : IVec S16x1536 32) (hi : IVec S8x1536 32) : k0_pay20 (F := F) lo hi = field 3 (by decide) lo hi :=
  field_of 3 _ _ _ _ (by rw [slice8]; rfl)
theorem pay26_eq (lo : Vec F S1x1x64x1536 .i8) (hi : Vec F S1x1x32x1536 .i8) :
    k0_pay26 lo hi = field 0 (by decide) (k0_pay6 lo) (k0_pay7 hi) := pay8_eq lo hi
theorem pay30_eq (lo : IVec S16x1536 32) (hi : IVec S8x1536 32) : k0_pay30 (F := F) lo hi = field 1 (by decide) lo hi :=
  pay12_eq lo hi
theorem pay34_eq (lo : IVec S16x1536 32) (hi : IVec S8x1536 32) : k0_pay34 (F := F) lo hi = field 2 (by decide) lo hi :=
  pay16_eq lo hi
theorem pay39_eq (lo : IVec S16x1536 32) (hi : IVec S8x1536 32) : k0_pay39 (F := F) lo hi = field 3 (by decide) lo hi :=
  pay20_eq lo hi

/-- What every store of a trip computes: sixteen rows of a field's numbers, from row `16 p`, times a row of scales rounded
    to `bf16`. -/
def tile (p : Nat) (hp : p < 2) (c : FVec F S32x1536 .bf16) (s : Vec F S1x1536 .f32) : FVec F S16x1536 .bf16 := fun x =>
  have hx : (x 0).val < 16 := (x 0).isLt
  FloatOps.mulf (c (ix2 ⟨16 * p + (x 0).val, by omega⟩ (x 1))) (FloatOps.truncf .bf16 bitsLt_bf16_f32 (s (ix2 0 (x 1))))

theorem half0 (c : FVec F S32x1536 .bf16) (s : Vec F S1x1536 .f32) :
    shapeCast S16x1536 (mulf (extractStridedSlice S16x1536 ![0, 0] c slices_S32x1536_o0_0_S16x1536)
      (truncf .bf16 (broadcastTo S16x1536 (shapeCast S1x1536 s shapeCasts_S1x1536_S1x1536) broadcasts_S1x1536_S16x1536)
        bitsLt_bf16_f32)) shapeCasts_S16x1536_S16x1536 = tile 0 (by decide) c s := by
  funext j; pointwise [tile]

theorem half1 (c : FVec F S32x1536 .bf16) (s : Vec F S1x1536 .f32) :
    shapeCast S16x1536 (mulf (extractStridedSlice S16x1536 ![16, 0] c slices_S32x1536_o16_0_S16x1536)
      (truncf .bf16 (broadcastTo S16x1536 (shapeCast S1x1536 s shapeCasts_S1x1536_S1x1536) broadcasts_S1x1536_S16x1536)
        bitsLt_bf16_f32)) shapeCasts_S16x1536_S16x1536 = tile 1 (by decide) c s := by
  funext j; pointwise [tile]

/-- The decoded weight at an index, its coordinates named. -/
theorem decoded_at (ql : Vec F S35x2x64x1536 .i8) (qh : Vec F S35x2x32x1536 .i8) (sc : Vec F S35x16x1536 .i8)
    (d : Vec F S35x1536 .f16) (y : S8960x1536.Idx) (k : Fin 35) (h : Fin 2) (f : Nat) (b : Fin 64) (b' : Fin 32) (g : Fin 16)
    (l : Fin 1536) (a1 : k.val = (y 0).val / 256) (a2 : h.val = (y 0).val / 128 % 2) (a3 : f = (y 0).val / 32 % 4)
    (a4 : g.val = (y 0).val / 16 % 16) (a5 : b.val = (y 0).val % 64) (a6 : b'.val = (y 0).val % 32) (a7 : l.val = (y 1).val) :
    decoded ql qh sc d y = weightEl f (ql (ix4 k h b l)) (qh (ix4 k h b' l)) (sc (ix3 k g l)) (d (ix2 k l)) := by
  have key : ∀ (f' : Nat) (k' : Fin 35) (h' : Fin 2) (c : Fin 64) (c' : Fin 32) (g' : Fin 16) (l' : Fin 1536), f' = f → k' = k →
      h' = h → c = b → c' = b' → g' = g → l' = l →
      weightEl f' (ql (ix4 k' h' c l')) (qh (ix4 k' h' c' l')) (sc (ix3 k' g' l')) (d (ix2 k' l'))
        = weightEl f (ql (ix4 k h b l)) (qh (ix4 k h b' l)) (sc (ix3 k g l)) (d (ix2 k l)) := by
    rintro _ _ _ _ _ _ _ rfl rfl rfl rfl rfl rfl rfl; rfl
  exact key _ _ _ _ _ _ _ a3.symm (Fin.ext a1.symm) (Fin.ext a2.symm) (Fin.ext a5.symm) (Fin.ext a6.symm) (Fin.ext a4.symm)
    (Fin.ext a7.symm)

/-- A stored piece at an index, its coordinates named. -/
theorem tile_at (p : Nat) (hp : p < 2) (c : FVec F S32x1536 .bf16) (s : Vec F S1x1536 .f32) (x : S16x1536.Idx) (r : Fin 32)
    (l : Fin 1536) (hr : r.val = 16 * p + (x 0).val) (hl : l.val = (x 1).val) :
    tile p hp c s x = FloatOps.mulf (c (ix2 r l)) (FloatOps.truncf .bf16 bitsLt_bf16_f32 (s (ix2 0 l))) := by
  have key : ∀ (r' : Fin 32) (l' : Fin 1536), r' = r → l' = l →
      FloatOps.mulf (c (ix2 r' l')) (FloatOps.truncf .bf16 bitsLt_bf16_f32 (s (ix2 0 l')))
        = FloatOps.mulf (c (ix2 r l)) (FloatOps.truncf .bf16 bitsLt_bf16_f32 (s (ix2 0 l))) := by
    rintro _ _ rfl rfl; rfl
  exact key _ _ (Fin.ext hr.symm) (Fin.ext hl.symm)

/-- A stored piece of trip `k` is sixteen rows of the decoded weights, from row `256 k + 16 (8 h + 2 f + p)` on. -/
theorem tile_decoded (ql : Vec F S35x2x64x1536 .i8) (qh : Vec F S35x2x32x1536 .i8) (sc : Vec F S35x16x1536 .i8)
    (d : Vec F S35x1536 .f16) (k : Fin 35) (h : Fin 2) (f p : Nat) (hf : f < 4) (hp : p < 2) (lo : Vec F S1x1x64x1536 .i8)
    (hi : Vec F S1x1x32x1536 .i8) (s : Vec F S1x1536 .f32) (hlo : ∀ b l, lo (ix4 0 0 b l) = ql (ix4 k h b l))
    (hhi : ∀ b l, hi (ix4 0 0 b l) = qh (ix4 k h b l)) (g : Fin 16) (hg : g.val = 8 * h.val + 2 * f + p)
    (hs : ∀ l, s (ix2 0 l) = scaleEl (sc (ix3 k g l)) (d (ix2 k l)))
    (x : S16x1536.Idx) (y : S8960x1536.Idx) (h0 : (y 0).val = 256 * k.val + 16 * g.val + (x 0).val)
    (h1 : (y 1).val = (x 1).val) :
    tile p hp (field f hf (k0_pay6 lo) (k0_pay7 hi)) s x = decoded ql qh sc d y := by
  obtain ⟨r, hr⟩ : ∃ r : Fin 16, r.val = (x 0).val := ⟨⟨(x 0).val, (x 0).isLt⟩, rfl⟩
  obtain ⟨l, hl⟩ : ∃ l : Fin 1536, l.val = (x 1).val := ⟨⟨(x 1).val, (x 1).isLt⟩, rfl⟩
  rw [tile_at p hp _ s x ⟨16 * p + r.val, by omega⟩ l (by dsimp only; omega) hl, field_apply, hlo, hhi, hs,
    decoded_at ql qh sc d y k h f ⟨32 * (f % 2) + (16 * p + r.val), by omega⟩ ⟨16 * p + r.val, by omega⟩ g l
      (by omega) (by omega) (by omega) (by omega) (by dsimp only; omega) (by dsimp only; omega) (by omega)]
  rfl

/-! Each store of a trip, from the words it loads: rows of a field times a row of scales. -/

theorem store0 (lo : Vec F S1x1x64x1536 .i8) (hi : Vec F S1x1x32x1536 .i8) (s : Vec F S1x1536 .f32) :
    k0_pay10 (k0_pay8 lo hi) (k0_pay9 s) = tile 0 (by decide) (field 0 (by decide) (k0_pay6 lo) (k0_pay7 hi)) s :=
  (half0 _ s).trans (congrArg (tile 0 (by decide) · s) (pay8_eq lo hi))
theorem store1 (lo : Vec F S1x1x64x1536 .i8) (hi : Vec F S1x1x32x1536 .i8) (s : Vec F S1x1536 .f32) :
    k0_pay11 (k0_pay8 lo hi) s = tile 1 (by decide) (field 0 (by decide) (k0_pay6 lo) (k0_pay7 hi)) s :=
  (half1 _ s).trans (congrArg (tile 1 (by decide) · s) (pay8_eq lo hi))
theorem store2 (lo : IVec S16x1536 32) (hi : IVec S8x1536 32) (s : Vec F S1x1536 .f32) :
    k0_pay14 (k0_pay12 lo hi) (k0_pay13 s) = tile 0 (by decide) (field 1 (by decide) lo hi) s :=
  (half0 _ s).trans (congrArg (tile 0 (by decide) · s) (pay12_eq lo hi))
theorem store3 (lo : IVec S16x1536 32) (hi : IVec S8x1536 32) (s : Vec F S1x1536 .f32) :
    k0_pay15 (k0_pay12 lo hi) s = tile 1 (by decide) (field 1 (by decide) lo hi) s :=
  (half1 _ s).trans (congrArg (tile 1 (by decide) · s) (pay12_eq lo hi))
theorem store4 (lo : IVec S16x1536 32) (hi : IVec S8x1536 32) (s : Vec F S1x1536 .f32) :
    k0_pay18 (k0_pay17 lo hi s) = tile 0 (by decide) (field 2 (by decide) lo hi) s :=
  (half0 _ s).trans (congrArg (tile 0 (by decide) · s) (pay16_eq lo hi))
theorem store5 (lo : IVec S16x1536 32) (hi : IVec S8x1536 32) (s : Vec F S1x1536 .f32) :
    k0_pay19 (k0_pay16 lo hi) s = tile 1 (by decide) (field 2 (by decide) lo hi) s :=
  (half1 _ s).trans (congrArg (tile 1 (by decide) · s) (pay16_eq lo hi))
theorem store6 (lo : IVec S16x1536 32) (hi : IVec S8x1536 32) (s : Vec F S1x1536 .f32) :
    k0_pay22 (k0_pay21 lo hi s) = tile 0 (by decide) (field 3 (by decide) lo hi) s :=
  (half0 _ s).trans (congrArg (tile 0 (by decide) · s) (pay20_eq lo hi))
theorem store7 (lo : IVec S16x1536 32) (hi : IVec S8x1536 32) (s : Vec F S1x1536 .f32) :
    k0_pay23 (k0_pay20 lo hi) s = tile 1 (by decide) (field 3 (by decide) lo hi) s :=
  (half1 _ s).trans (congrArg (tile 1 (by decide) · s) (pay20_eq lo hi))
theorem store8 (lo : Vec F S1x1x64x1536 .i8) (hi : Vec F S1x1x32x1536 .i8) (s : Vec F S1x1536 .f32) :
    k0_pay28 (k0_pay26 lo hi) (k0_pay27 s) = tile 0 (by decide) (field 0 (by decide) (k0_pay6 lo) (k0_pay7 hi)) s :=
  (half0 _ s).trans (congrArg (tile 0 (by decide) · s) (pay26_eq lo hi))
theorem store9 (lo : Vec F S1x1x64x1536 .i8) (hi : Vec F S1x1x32x1536 .i8) (s : Vec F S1x1536 .f32) :
    k0_pay29 (k0_pay26 lo hi) s = tile 1 (by decide) (field 0 (by decide) (k0_pay6 lo) (k0_pay7 hi)) s :=
  (half1 _ s).trans (congrArg (tile 1 (by decide) · s) (pay26_eq lo hi))
theorem store10 (lo : IVec S16x1536 32) (hi : IVec S8x1536 32) (s : Vec F S1x1536 .f32) :
    k0_pay32 (k0_pay30 lo hi) (k0_pay31 s) = tile 0 (by decide) (field 1 (by decide) lo hi) s :=
  (half0 _ s).trans (congrArg (tile 0 (by decide) · s) (pay30_eq lo hi))
theorem store11 (lo : IVec S16x1536 32) (hi : IVec S8x1536 32) (s : Vec F S1x1536 .f32) :
    k0_pay33 (k0_pay30 lo hi) s = tile 1 (by decide) (field 1 (by decide) lo hi) s :=
  (half1 _ s).trans (congrArg (tile 1 (by decide) · s) (pay30_eq lo hi))
theorem store12 (lo : IVec S16x1536 32) (hi : IVec S8x1536 32) (s : Vec F S1x1536 .f32) :
    k0_pay37 (k0_pay35 s) (k0_pay36 lo hi) = tile 0 (by decide) (field 2 (by decide) lo hi) s :=
  (half0 _ s).trans (congrArg (tile 0 (by decide) · s) (pay34_eq lo hi))
theorem store13 (lo : IVec S16x1536 32) (hi : IVec S8x1536 32) (s : Vec F S1x1536 .f32) :
    k0_pay38 (k0_pay34 lo hi) s = tile 1 (by decide) (field 2 (by decide) lo hi) s :=
  (half1 _ s).trans (congrArg (tile 1 (by decide) · s) (pay34_eq lo hi))
theorem store14 (lo : IVec S16x1536 32) (hi : IVec S8x1536 32) (s : Vec F S1x1536 .f32) :
    k0_pay1 (k0_pay40 lo hi s) = tile 0 (by decide) (field 3 (by decide) lo hi) s :=
  (half0 _ s).trans (congrArg (tile 0 (by decide) · s) (pay39_eq lo hi))
theorem store15 (lo : IVec S16x1536 32) (hi : IVec S8x1536 32) (s : Vec F S1x1536 .f32) :
    k0_pay2 (k0_pay39 lo hi) s = tile 1 (by decide) (field 3 (by decide) lo hi) s :=
  (half1 _ s).trans (congrArg (tile 1 (by decide) · s) (pay39_eq lo hi))

end Cert.Kernel.Run

end
-- ==== Proof.Trip.lean ====
/- One trip of the kernel's decoding loop, run, and the loop's invariant: before trip `k` the rows below `256 k` of the
   weight scratch hold the decoded weights. -/
module

public import proofs.«01_k».proof.Proof.Gen.Kernel.Launch
public import proofs.«01_k».proof.Proof.Decode
public import Idealize.ShloMosaic.Lib.Tactic
public import Idealize.ShloMosaic.Lib.VecWindow

@[expose] public section

set_option maxRecDepth 16384

noncomputable section

namespace Cert.Kernel.Run

open Cert.Kernel Cert.Kernel.Gen Cert.Codes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The low codes that a trip loads for half `h` are row `(k, h)` of the array. -/
theorem lo_read (arg2 : Memref sig .tc .vmem S35x2x64x1536 .i8) (X : arg2.view.ty.Contents (Elt F)) (k : Fin 35) (h : Fin 2)
    (off : Fin S35x2x64x1536.rank → ℕ) (inb : ∀ a, off a + S1x1x64x1536.size a ≤ S35x2x64x1536.size a) (ho : off = ![k.val, h.val, 0, 0])
    (b : Fin 64) (l : Fin 1536) :
    View.readAt (Elt F) arg2.view (Rect.unit (s := S35x2x64x1536) off S1x1x64x1536.size inb).toLoadRect X (ix4 0 0 b l)
      = arg2.view.read (Elt F) X (ix4 k h b l) := by
  subst ho
  refine congrArg (arg2.view.read (Elt F) X) (funext fun a => Fin.ext ?_)
  fin_cases a <;> simp

/-- The high codes that a trip loads for half `h` are row `(k, h)` of the array. -/
theorem hi_read (arg3 : Memref sig .tc .vmem S35x2x32x1536 .i8) (X : arg3.view.ty.Contents (Elt F)) (k : Fin 35) (h : Fin 2)
    (off : Fin S35x2x32x1536.rank → ℕ) (inb : ∀ a, off a + S1x1x32x1536.size a ≤ S35x2x32x1536.size a) (ho : off = ![k.val, h.val, 0, 0])
    (b : Fin 32) (l : Fin 1536) :
    View.readAt (Elt F) arg3.view (Rect.unit (s := S35x2x32x1536) off S1x1x32x1536.size inb).toLoadRect X (ix4 0 0 b l)
      = arg3.view.read (Elt F) X (ix4 k h b l) := by
  subst ho
  refine congrArg (arg3.view.read (Elt F) X) (funext fun a => Fin.ext ?_)
  fin_cases a <;> simp

/-- The integer scales that a trip loads are row `k` of the array. -/
theorem sc_read (arg4 : Memref sig .tc .vmem S35x16x1536 .i8) (X : arg4.view.ty.Contents (Elt F)) (k : Fin 35)
    (off : Fin S35x16x1536.rank → ℕ) (inb : ∀ a, off a + S1x16x1536.size a ≤ S35x16x1536.size a) (ho : off = ![k.val, 0, 0])
    (g : Fin 16) (l : Fin 1536) :
    View.readAt (Elt F) arg4.view (Rect.unit (s := S35x16x1536) off S1x16x1536.size inb).toLoadRect X (ix3 0 g l)
      = arg4.view.read (Elt F) X (ix3 k g l) := by
  subst ho
  refine congrArg (arg4.view.read (Elt F) X) (funext fun a => Fin.ext ?_)
  fin_cases a <;> simp

/-- The factors that a trip loads are row `k` of the array. -/
theorem d_read (arg5 : Memref sig .tc .vmem S35x1536 .f16) (X : arg5.view.ty.Contents (Elt F)) (k : Fin 35)
    (off : Fin S35x1536.rank → ℕ) (inb : ∀ a, off a + S1x1536.size a ≤ S35x1536.size a) (ho : off = ![k.val, 0]) (l : Fin 1536) :
    View.readAt (Elt F) arg5.view (Rect.unit (s := S35x1536) off S1x1536.size inb).toLoadRect X (ix2 0 l)
      = arg5.view.read (Elt F) X (ix2 k l) := by
  subst ho
  refine congrArg (arg5.view.read (Elt F) X) (funext fun a => Fin.ext ?_)
  fin_cases a <;> simp

/-- The scales a trip computes, element by element. -/
theorem pay5_apply (v35 : Vec F S1x1536 .f16) (v39 : Vec F S1x16x1536 .i8) (g : Fin 16) (l : Fin 1536) :
    k0_pay5 v35 v39 (ix2 g l) = scaleEl (v39 (ix3 0 g l)) (v35 (ix2 0 l)) := by
  unfold k0_pay5
  pointwise [scaleEl]

/-- The scale row that a piece loads back from the scale scratch is row `g` of the scales stored there. -/
theorem scale_read (arg9 : Memref sig .tc .vmem S16x1536 .f32) (w : Vec F S16x1536 .f32) (off0 : Fin S16x1536.rank → ℕ)
    (inb0 : ∀ a, off0 a + S16x1536.size a ≤ S16x1536.size a) (g : Fin 16)
    (inb : ∀ a, (![g.val, 0] : Fin S16x1536.rank → ℕ) a + S1x1536.size a ≤ S16x1536.size a) (l : Fin 1536) :
    arg9.view.readCov [(⟨Rect.unit (s := S16x1536) off0 S16x1536.size inb0, w⟩ : View.Piece (Elt F) S16x1536 (.f32))] (Rect.unit (s := S16x1536) ![g.val, 0] S1x1536.size inb).toLoadRect (ix2 0 l)
      = w (ix2 g l) := by
  refine (congrFun (View.read_writes_full arg9.view arg9.view.junk inb0 w []) _).trans (congrArg w (funext fun a => Fin.ext ?_))
  fin_cases a <;> simp

theorem inb_rows (k : Fin 35) (g : Fin 16) (a : Fin S8960x1536.rank) :
    (![256 * k.val + 16 * g.val, 0] : Fin S8960x1536.rank → ℕ) a + S16x1536.size a ≤ S8960x1536.size a := by
  have := g.isLt
  have := k.isLt
  fin_cases a
  · simp; omega
  · simp

/-- The weight scratch holds the decoded weights in its rows below `256 k`. -/
def RowsTo (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg10 : Memref sig .tc .vmem S8960x1536 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : ℕ) (f : BufTy.Contents (Elt F) arg10.view.ty) : Prop :=
  ∀ y : S8960x1536.Idx, (y 0).val < 256 * k → arg10.view.read (Elt F) f y
    = decoded (arg2.view.read (Elt F) X_arg2) (arg3.view.read (Elt F) X_arg3) (arg4.view.read (Elt F) X_arg4)
        (arg5.view.read (Elt F) X_arg5) y

/-- A piece stored at rows from `256 k + 16 g` on holds the decoded weights there. -/
def Holds (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin 35) (g : Fin 16) (w : Vec F S16x1536 .bf16) : Prop :=
  ∀ (x : S16x1536.Idx) (y : S8960x1536.Idx), (y 0).val = 256 * k.val + 16 * g.val + (x 0).val → (y 1).val = (x 1).val →
    w x = decoded (arg2.view.read (Elt F) X_arg2) (arg3.view.read (Elt F) X_arg3)
        (arg4.view.read (Elt F) X_arg4) (arg5.view.read (Elt F) X_arg5) y

/-- A trip's sixteen stored pieces, each holding the decoded weights over its sixteen rows, extend the decoded rows by 256. -/
theorem rows_step (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg10 : Memref sig .tc .vmem S8960x1536 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin 35) (f : BufTy.Contents (Elt F) arg10.view.ty)
    (off : Fin 16 → Fin S8960x1536.rank → ℕ) (inb : ∀ g a, off g a + S16x1536.size a ≤ S8960x1536.size a)
    (hoff : ∀ g, off g = ![256 * k.val + 16 * g.val, 0])
    (w : Fin 16 → Vec F S16x1536 .bf16) (L : List (View.Piece (Elt F) S8960x1536 .bf16))
    (hL : L = [⟨Rect.unit (s := S8960x1536) (off 15) S16x1536.size (inb 15), w 15⟩,
      ⟨Rect.unit (s := S8960x1536) (off 14) S16x1536.size (inb 14), w 14⟩,
      ⟨Rect.unit (s := S8960x1536) (off 13) S16x1536.size (inb 13), w 13⟩,
      ⟨Rect.unit (s := S8960x1536) (off 12) S16x1536.size (inb 12), w 12⟩,
      ⟨Rect.unit (s := S8960x1536) (off 11) S16x1536.size (inb 11), w 11⟩,
      ⟨Rect.unit (s := S8960x1536) (off 10) S16x1536.size (inb 10), w 10⟩,
      ⟨Rect.unit (s := S8960x1536) (off 9) S16x1536.size (inb 9), w 9⟩,
      ⟨Rect.unit (s := S8960x1536) (off 8) S16x1536.size (inb 8), w 8⟩,
      ⟨Rect.unit (s := S8960x1536) (off 7) S16x1536.size (inb 7), w 7⟩,
      ⟨Rect.unit (s := S8960x1536) (off 6) S16x1536.size (inb 6), w 6⟩,
      ⟨Rect.unit (s := S8960x1536) (off 5) S16x1536.size (inb 5), w 5⟩,
      ⟨Rect.unit (s := S8960x1536) (off 4) S16x1536.size (inb 4), w 4⟩,
      ⟨Rect.unit (s := S8960x1536) (off 3) S16x1536.size (inb 3), w 3⟩,
      ⟨Rect.unit (s := S8960x1536) (off 2) S16x1536.size (inb 2), w 2⟩,
      ⟨Rect.unit (s := S8960x1536) (off 1) S16x1536.size (inb 1), w 1⟩,
      ⟨Rect.unit (s := S8960x1536) (off 0) S16x1536.size (inb 0), w 0⟩])
    (hw : ∀ g, Holds arg2 arg3 arg4 arg5 X_arg2 X_arg3 X_arg4 X_arg5 k g (w g))
    (hrows : RowsTo arg2 arg3 arg4 arg5 arg10 X_arg2 X_arg3 X_arg4 X_arg5 (k.val) f) :
    RowsTo arg2 arg3 arg4 arg5 arg10 X_arg2 X_arg3 X_arg4 X_arg5 (k.val + 1) (arg10.view.writes (Elt F) f L) := by
  intro y hy
  replace hL : L = (List.finRange 16).reverse.map fun g =>
    (⟨Rect.unit (s := S8960x1536) (off g) S16x1536.size (inb g), w g⟩ : View.Piece (Elt F) S8960x1536 .bf16) := hL.trans rfl
  subst hL
  by_cases hlt : (y 0).val < 256 * k.val
  · refine (View.read_writes_apply_of_forall_not_mem arg10.view _ y _ ?_).trans (hrows y hlt)
    intro p hp
    obtain ⟨g, _, rfl⟩ := List.mem_map.1 hp
    intro hm
    have hm' : y ∈ (Rect.unit (s := S8960x1536) (off g) S16x1536.size (inb g)).set := hm
    have h0 := (Rect.mem_set_unit.1 hm') 0
    have e : off g 0 = 256 * k.val + 16 * g.val := congrFun (hoff g) 0
    omega
  · refine View.read_writes_apply_of_pieces arg10.view f _ _ ?_ y ?_
    · intro p hp x
      obtain ⟨g, _, rfl⟩ := List.mem_map.1 hp
      refine hw g x _ ?_ ?_
      · have e : off g 0 = 256 * k.val + 16 * g.val := congrFun (hoff g) 0
        show off g 0 + 1 * (x 0).val = _
        omega
      · have e : off g 1 = 0 := congrFun (hoff g) 1
        show off g 1 + 1 * (x 1).val = _
        omega
    · obtain ⟨g, hg⟩ : ∃ g : Fin 16, g.val = ((y 0).val - 256 * k.val) / 16 := ⟨⟨((y 0).val - 256 * k.val) / 16, by omega⟩, rfl⟩
      refine ⟨_, List.mem_map.2 ⟨g, by simp, rfl⟩, (Rect.mem_set_unit (inb := inb g)).2 fun a => ?_⟩
      have h1 : (y 1).val < 1536 := (y 1).isLt
      rw [hoff g]
      fin_cases a
      · simp; omega
      · simp; omega

theorem inb_row (g : Fin 16) (a : Fin S16x1536.rank) :
    (![g.val, 0] : Fin S16x1536.rank → ℕ) a + S1x1536.size a ≤ S16x1536.size a := by
  have := g.isLt
  fin_cases a
  · simp; try omega
  · simp

theorem inb_whole (a : Fin S16x1536.rank) : (![0, 0] : Fin S16x1536.rank → ℕ) a + S16x1536.size a ≤ S16x1536.size a := by
  fin_cases a <;> simp

/-- Row `g` of the trip's scales, as a piece loads it back from the scale scratch. -/
abbrev scaleRow (arg9 : Memref sig .tc .vmem S16x1536 .f32) (v35 : Vec F S1x1536 .f16) (v39 : Vec F S1x16x1536 .i8) (g : Fin 16) :
    Vec F S1x1536 .f32 :=
  arg9.view.readCov [(⟨Rect.unit (s := S16x1536) ![0, 0] S16x1536.size inb_whole, k0_pay5 v35 v39⟩ :
    View.Piece (Elt F) S16x1536 (.f32))] (Rect.unit (s := S16x1536) ![g.val, 0] S1x1536.size (inb_row g)).toLoadRect

/-- A store that computes its sixteen rows of a field, from loads that read the trip's rows, holds the decoded weights. -/
theorem holds_of (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg9 : Memref sig .tc .vmem S16x1536 .f32)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin 35) (h : Fin 2) (f p : Nat) (hf : f < 4) (hp : p < 2)
    (lo : Vec F S1x1x64x1536 .i8) (hi : Vec F S1x1x32x1536 .i8) (v35 : Vec F S1x1536 .f16) (v39 : Vec F S1x16x1536 .i8)
    (hlo : ∀ b l, lo (ix4 0 0 b l) = arg2.view.read (Elt F) X_arg2 (ix4 k h b l))
    (hhi : ∀ b l, hi (ix4 0 0 b l) = arg3.view.read (Elt F) X_arg3 (ix4 k h b l))
    (hv39 : ∀ g l, v39 (ix3 0 g l) = arg4.view.read (Elt F) X_arg4 (ix3 k g l))
    (hv35 : ∀ l, v35 (ix2 0 l) = arg5.view.read (Elt F) X_arg5 (ix2 k l))
    (g : Fin 16) (hg : g.val = 8 * h.val + 2 * f + p) (w : Vec F S16x1536 .bf16)
    (e : w = tile p hp (field f hf (k0_pay6 lo) (k0_pay7 hi)) (scaleRow arg9 v35 v39 g)) :
    Holds arg2 arg3 arg4 arg5 X_arg2 X_arg3 X_arg4 X_arg5 k g w := by
  subst e
  intro x y h0 h1
  refine tile_decoded _ _ _ _ k h f p hf hp lo hi _ hlo hhi g hg ?_ x y h0 h1
  intro l
  refine (scale_read arg9 (k0_pay5 v35 v39) _ _ g _ l).trans ?_
  rw [pay5_apply, hv39, hv35]

/-- A trip's stores, from what the trip loads, extend the decoded rows by 256. -/
theorem rows_trip (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg9 : Memref sig .tc .vmem S16x1536 .f32) (arg10 : Memref sig .tc .vmem S8960x1536 .bf16)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin 35)
    (f : BufTy.Contents (Elt F) arg10.view.ty)
    (off : Fin 16 → Fin S8960x1536.rank → ℕ) (inb : ∀ g a, off g a + S16x1536.size a ≤ S8960x1536.size a)
    (hoff : ∀ g, off g = ![256 * k.val + 16 * g.val, 0])
    (lo : Fin 2 → Vec F S1x1x64x1536 .i8) (hi : Fin 2 → Vec F S1x1x32x1536 .i8) (v35 : Vec F S1x1536 .f16) (v39 : Vec F S1x16x1536 .i8)
    (hlo : ∀ h b l, lo h (ix4 0 0 b l) = arg2.view.read (Elt F) X_arg2 (ix4 k h b l))
    (hhi : ∀ h b l, hi h (ix4 0 0 b l) = arg3.view.read (Elt F) X_arg3 (ix4 k h b l))
    (hv39 : ∀ g l, v39 (ix3 0 g l) = arg4.view.read (Elt F) X_arg4 (ix3 k g l))
    (hv35 : ∀ l, v35 (ix2 0 l) = arg5.view.read (Elt F) X_arg5 (ix2 k l))
    (hrows : RowsTo arg2 arg3 arg4 arg5 arg10 X_arg2 X_arg3 X_arg4 X_arg5 (k.val) f) :
    RowsTo arg2 arg3 arg4 arg5 arg10 X_arg2 X_arg3 X_arg4 X_arg5 (k.val + 1)
        (arg10.view.writes (Elt F) f [⟨Rect.unit (s := S8960x1536) (off 15) S16x1536.size (inb 15), k0_pay2 (k0_pay39 (k0_pay24 (lo 1)) (k0_pay25 (hi 1))) (scaleRow arg9 v35 v39 15)⟩,
          ⟨Rect.unit (s := S8960x1536) (off 14) S16x1536.size (inb 14), k0_pay1 (k0_pay40 (k0_pay24 (lo 1)) (k0_pay25 (hi 1)) (scaleRow arg9 v35 v39 14))⟩,
          ⟨Rect.unit (s := S8960x1536) (off 13) S16x1536.size (inb 13), k0_pay38 (k0_pay34 (k0_pay24 (lo 1)) (k0_pay25 (hi 1))) (scaleRow arg9 v35 v39 13)⟩,
          ⟨Rect.unit (s := S8960x1536) (off 12) S16x1536.size (inb 12), k0_pay37 (k0_pay35 (scaleRow arg9 v35 v39 12)) (k0_pay36 (k0_pay24 (lo 1)) (k0_pay25 (hi 1)))⟩,
          ⟨Rect.unit (s := S8960x1536) (off 11) S16x1536.size (inb 11), k0_pay33 (k0_pay30 (k0_pay24 (lo 1)) (k0_pay25 (hi 1))) (scaleRow arg9 v35 v39 11)⟩,
          ⟨Rect.unit (s := S8960x1536) (off 10) S16x1536.size (inb 10), k0_pay32 (k0_pay30 (k0_pay24 (lo 1)) (k0_pay25 (hi 1))) (k0_pay31 (scaleRow arg9 v35 v39 10))⟩,
          ⟨Rect.unit (s := S8960x1536) (off 9) S16x1536.size (inb 9), k0_pay29 (k0_pay26 (lo 1) (hi 1)) (scaleRow arg9 v35 v39 9)⟩,
          ⟨Rect.unit (s := S8960x1536) (off 8) S16x1536.size (inb 8), k0_pay28 (k0_pay26 (lo 1) (hi 1)) (k0_pay27 (scaleRow arg9 v35 v39 8))⟩,
          ⟨Rect.unit (s := S8960x1536) (off 7) S16x1536.size (inb 7), k0_pay23 (k0_pay20 (k0_pay6 (lo 0)) (k0_pay7 (hi 0))) (scaleRow arg9 v35 v39 7)⟩,
          ⟨Rect.unit (s := S8960x1536) (off 6) S16x1536.size (inb 6), k0_pay22 (k0_pay21 (k0_pay6 (lo 0)) (k0_pay7 (hi 0)) (scaleRow arg9 v35 v39 6))⟩,
          ⟨Rect.unit (s := S8960x1536) (off 5) S16x1536.size (inb 5), k0_pay19 (k0_pay16 (k0_pay6 (lo 0)) (k0_pay7 (hi 0))) (scaleRow arg9 v35 v39 5)⟩,
          ⟨Rect.unit (s := S8960x1536) (off 4) S16x1536.size (inb 4), k0_pay18 (k0_pay17 (k0_pay6 (lo 0)) (k0_pay7 (hi 0)) (scaleRow arg9 v35 v39 4))⟩,
          ⟨Rect.unit (s := S8960x1536) (off 3) S16x1536.size (inb 3), k0_pay15 (k0_pay12 (k0_pay6 (lo 0)) (k0_pay7 (hi 0))) (scaleRow arg9 v35 v39 3)⟩,
          ⟨Rect.unit (s := S8960x1536) (off 2) S16x1536.size (inb 2), k0_pay14 (k0_pay12 (k0_pay6 (lo 0)) (k0_pay7 (hi 0))) (k0_pay13 (scaleRow arg9 v35 v39 2))⟩,
          ⟨Rect.unit (s := S8960x1536) (off 1) S16x1536.size (inb 1), k0_pay11 (k0_pay8 (lo 0) (hi 0)) (scaleRow arg9 v35 v39 1)⟩,
          ⟨Rect.unit (s := S8960x1536) (off 0) S16x1536.size (inb 0), k0_pay10 (k0_pay8 (lo 0) (hi 0)) (k0_pay9 (scaleRow arg9 v35 v39 0))⟩]) := by
  refine rows_step arg2 arg3 arg4 arg5 arg10 X_arg2 X_arg3 X_arg4 X_arg5 k f off inb hoff
    ![k0_pay10 (k0_pay8 (lo 0) (hi 0)) (k0_pay9 (scaleRow arg9 v35 v39 0)),
      k0_pay11 (k0_pay8 (lo 0) (hi 0)) (scaleRow arg9 v35 v39 1),
      k0_pay14 (k0_pay12 (k0_pay6 (lo 0)) (k0_pay7 (hi 0))) (k0_pay13 (scaleRow arg9 v35 v39 2)),
      k0_pay15 (k0_pay12 (k0_pay6 (lo 0)) (k0_pay7 (hi 0))) (scaleRow arg9 v35 v39 3),
      k0_pay18 (k0_pay17 (k0_pay6 (lo 0)) (k0_pay7 (hi 0)) (scaleRow arg9 v35 v39 4)),
      k0_pay19 (k0_pay16 (k0_pay6 (lo 0)) (k0_pay7 (hi 0))) (scaleRow arg9 v35 v39 5),
      k0_pay22 (k0_pay21 (k0_pay6 (lo 0)) (k0_pay7 (hi 0)) (scaleRow arg9 v35 v39 6)),
      k0_pay23 (k0_pay20 (k0_pay6 (lo 0)) (k0_pay7 (hi 0))) (scaleRow arg9 v35 v39 7),
      k0_pay28 (k0_pay26 (lo 1) (hi 1)) (k0_pay27 (scaleRow arg9 v35 v39 8)),
      k0_pay29 (k0_pay26 (lo 1) (hi 1)) (scaleRow arg9 v35 v39 9),
      k0_pay32 (k0_pay30 (k0_pay24 (lo 1)) (k0_pay25 (hi 1))) (k0_pay31 (scaleRow arg9 v35 v39 10)),
      k0_pay33 (k0_pay30 (k0_pay24 (lo 1)) (k0_pay25 (hi 1))) (scaleRow arg9 v35 v39 11),
      k0_pay37 (k0_pay35 (scaleRow arg9 v35 v39 12)) (k0_pay36 (k0_pay24 (lo 1)) (k0_pay25 (hi 1))),
      k0_pay38 (k0_pay34 (k0_pay24 (lo 1)) (k0_pay25 (hi 1))) (scaleRow arg9 v35 v39 13),
      k0_pay1 (k0_pay40 (k0_pay24 (lo 1)) (k0_pay25 (hi 1)) (scaleRow arg9 v35 v39 14)),
      k0_pay2 (k0_pay39 (k0_pay24 (lo 1)) (k0_pay25 (hi 1))) (scaleRow arg9 v35 v39 15)] _ rfl ?_ hrows
  have H := fun (h : Fin 2) (f p : Nat) (hf : f < 4) (hp : p < 2) =>
    holds_of arg2 arg3 arg4 arg5 arg9 X_arg2 X_arg3 X_arg4 X_arg5 k h f p hf hp (lo h) (hi h) v35 v39 (hlo h) (hhi h) hv39 hv35
  intro g
  match g with
  | 0 => exact H 0 0 0 (by decide) (by decide) 0 rfl _ (store0 (lo 0) (hi 0) _)
  | 1 => exact H 0 0 1 (by decide) (by decide) 1 rfl _ (store1 (lo 0) (hi 0) _)
  | 2 => exact H 0 1 0 (by decide) (by decide) 2 rfl _ (store2 (k0_pay6 (lo 0)) (k0_pay7 (hi 0)) _)
  | 3 => exact H 0 1 1 (by decide) (by decide) 3 rfl _ (store3 (k0_pay6 (lo 0)) (k0_pay7 (hi 0)) _)
  | 4 => exact H 0 2 0 (by decide) (by decide) 4 rfl _ (store4 (k0_pay6 (lo 0)) (k0_pay7 (hi 0)) _)
  | 5 => exact H 0 2 1 (by decide) (by decide) 5 rfl _ (store5 (k0_pay6 (lo 0)) (k0_pay7 (hi 0)) _)
  | 6 => exact H 0 3 0 (by decide) (by decide) 6 rfl _ (store6 (k0_pay6 (lo 0)) (k0_pay7 (hi 0)) _)
  | 7 => exact H 0 3 1 (by decide) (by decide) 7 rfl _ (store7 (k0_pay6 (lo 0)) (k0_pay7 (hi 0)) _)
  | 8 => exact H 1 0 0 (by decide) (by decide) 8 rfl _ (store8 (lo 1) (hi 1) _)
  | 9 => exact H 1 0 1 (by decide) (by decide) 9 rfl _ (store9 (lo 1) (hi 1) _)
  | 10 => exact H 1 1 0 (by decide) (by decide) 10 rfl _ (store10 (k0_pay24 (lo 1)) (k0_pay25 (hi 1)) _)
  | 11 => exact H 1 1 1 (by decide) (by decide) 11 rfl _ (store11 (k0_pay24 (lo 1)) (k0_pay25 (hi 1)) _)
  | 12 => exact H 1 2 0 (by decide) (by decide) 12 rfl _ (store12 (k0_pay24 (lo 1)) (k0_pay25 (hi 1)) _)
  | 13 => exact H 1 2 1 (by decide) (by decide) 13 rfl _ (store13 (k0_pay24 (lo 1)) (k0_pay25 (hi 1)) _)
  | 14 => exact H 1 3 0 (by decide) (by decide) 14 rfl _ (store14 (k0_pay24 (lo 1)) (k0_pay25 (hi 1)) _)
  | 15 => exact H 1 3 1 (by decide) (by decide) 15 rfl _ (store15 (k0_pay24 (lo 1)) (k0_pay25 (hi 1)) _)
  | ⟨n + 16, hn⟩ => exact absurd hn (by omega)

local notation "𝕄G" => MT nD τ sig Unit (Elt F) ℕ (UR sig nD τ) ℕ

set_option maxHeartbeats 1600000 in
/-- One trip: with the rows below `256 k` decoded before it, the rows below `256 (k + 1)` are decoded after it. -/
theorem trip (𝒱 : Variants) (c : Dev nD) (bd : Option 𝒱.V) (E : Set ℕ)
    (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (k0_h1 : k0_cond1 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg9 : BufTy.Contents (Elt F) arg9.view.ty)
    (f_arg10 : BufTy.Contents (Elt F) arg10.view.ty) (k : Fin k0_t1_loop.trips)
    (hrows : RowsTo arg2 arg3 arg4 arg5 arg10 X_arg2 X_arg3 X_arg4 X_arg5 (k.val) f_arg10) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} f_arg9) ∗ (arg10.view.loc (c : Thread nD τ) ↦[arg10.view.set]{fullShare} f_arg10)) : sProp 𝕄G)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 k0_h1 k PUnit.unit)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f, (arg9.view.loc (c : Thread nD τ) ↦[arg9.view.set]{fullShare} f))
            ∗ (∃ f, (arg10.view.loc (c : Thread nD τ) ↦[arg10.view.set]{fullShare} f) ∗ ⌜RowsTo arg2 arg3 arg4 arg5 arg10 X_arg2 X_arg3 X_arg4 X_arg5 (k.val + 1) f⌝))) := by
  have hk : k.val < 35 := Nat.lt_of_lt_of_le k.isLt k0_t1_abs.2.1
  unfold k0_t1_body
  iintro ⟨HR_arg2, HR_arg3, HR_arg4, HR_arg5, HW_arg9, HW_arg10⟩
  sl_exec
  sl_step
  isplitl [HR_arg2]; · iexact HR_arg2
  isplitl [HR_arg3]; · iexact HR_arg3
  isplitl [HR_arg4]; · iexact HR_arg4
  isplitl [HR_arg5]; · iexact HR_arg5
  isplitl [HW_arg9]
  · iexists _; iexact HW_arg9
  iexists _
  isplitl [HW_arg10]; · iexact HW_arg10
  ipureintro
  exact rows_trip arg2 arg3 arg4 arg5 arg9 arg10 X_arg2 X_arg3 X_arg4 X_arg5 ⟨k.val, hk⟩ f_arg10
    (fun g => k0_off5 k (BitVec.ofNat 32 (16 * g.val))) (fun g => by rw [k0_off5_eq]; exact inb_rows ⟨k.val, hk⟩ g) (fun g => k0_off5_eq k g)
    ![_, _] ![_, _] _ _
    (Fin.forall_fin_two.2 ⟨lo_read arg2 X_arg2 ⟨k.val, hk⟩ 0 _ _ (k0_off3_eq k), lo_read arg2 X_arg2 ⟨k.val, hk⟩ 1 _ _ (k0_off6_eq k)⟩)
    (Fin.forall_fin_two.2 ⟨hi_read arg3 X_arg3 ⟨k.val, hk⟩ 0 _ _ (k0_off4_eq k), hi_read arg3 X_arg3 ⟨k.val, hk⟩ 1 _ _ (k0_off7_eq k)⟩)
    (sc_read arg4 X_arg4 ⟨k.val, hk⟩ _ _ (k0_off2_eq k)) (d_read arg5 X_arg5 ⟨k.val, hk⟩ _ _ (k0_off1_eq k)) hrows

/-- The loop by its invariant: before trip `k` the packed arrays are as they were, the scale scratch holds anything, and the
    weight scratch holds the decoded weights in its rows below `256 k`. -/
abbrev loopAt (c : Dev nD) (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (k0_h1 : k0_cond1 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f, (arg9.view.loc (c : Thread nD τ) ↦[arg9.view.set]{fullShare} f))
    ∗ (∃ f, (arg10.view.loc (c : Thread nD τ) ↦[arg10.view.set]{fullShare} f) ∗ ⌜RowsTo arg2 arg3 arg4 arg5 arg10 X_arg2 X_arg3 X_arg4 X_arg5 (k) f⌝))

set_option warn.classDefReducibility false in
@[sl_loop] def loopInv (𝒱 : Variants) (c : Dev nD) (bd : Option 𝒱.V) (E : Set ℕ)
    (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (k0_h1 : k0_cond1 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    Idealize.ShloMosaic.LoopInv (M := MT nD τ sig Unit (Elt F) ℕ (UR sig nD τ) ℕ) Idealize.ShloMosaic.frame
      (wpE defs₀ 𝒱 (c : Thread nD τ) bd) E k0_t1_loop.lb k0_t1_loop.ub k0_t1_loop.st (k0_t1_ok i k0_h1) ()
      (k0_t1_body (F := F) i arg1 harg1 arg2 harg2 arg3 harg3 arg4 harg4 arg5 harg5 arg6 harg6 arg7 harg7 arg8 harg8 arg9 harg9 arg10 harg10 arg11 harg11 k0_h1) where
  inv := loopAt (F := F) c i arg1 harg1 arg2 harg2 arg3 harg3 arg4 harg4 arg5 harg5 arg6 harg6 arg7 harg7 arg8 harg8 arg9 harg9 arg10 harg10 arg11 harg11 k0_h1 X_arg2 X_arg3 X_arg4 X_arg5
  step k acc := by
    iintro ⟨HR_arg2, HR_arg3, HR_arg4, HR_arg5, ⟨%f_arg9, HW_arg9⟩, ⟨%f_arg10, HW_arg10, %h_arg10⟩⟩
    iapply (trip (F := F) 𝒱 c bd E i arg1 harg1 arg2 harg2 arg3 harg3 arg4 harg4 arg5 harg5 arg6 harg6 arg7 harg7 arg8 harg8 arg9 harg9 arg10 harg10 arg11 harg11 k0_h1 X_arg2 X_arg3 X_arg4 X_arg5 f_arg9 f_arg10 k h_arg10)
    isplitl [HR_arg2]; · iexact HR_arg2
    isplitl [HR_arg3]; · iexact HR_arg3
    isplitl [HR_arg4]; · iexact HR_arg4
    isplitl [HR_arg5]; · iexact HR_arg5
    isplitl [HW_arg9]; · iexact HW_arg9
    iexact HW_arg10

end Cert.Kernel.Run

end
-- ==== Proof.Body.lean ====
/- The kernel body at one grid point, run: what it leaves in the output block and in the weight scratch. -/
module

public import proofs.«01_k».proof.Proof.Gen.Kernel.Frame
public import proofs.«01_k».proof.Proof.Trip

@[expose] public section

set_option maxRecDepth 16384

noncomputable section

namespace Cert.Kernel.Run

open Cert.Kernel Cert.Kernel.Gen Cert.Codes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem trips_eq : k0_t1_loop.trips = 35 := by decide

/-- After the last trip every row is decoded. -/
theorem rows_all (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg10 : Memref sig .tc .vmem S8960x1536 .bf16) {X_arg2 X_arg3 X_arg4 X_arg5} {x1 : Vec F S35x2x64x1536 .i8}
    {x2 : Vec F S35x2x32x1536 .i8} {x3 : Vec F S35x16x1536 .i8} {x4 : Vec F S35x1536 .f16}
    (h1 : arg2.view.read (Elt F) X_arg2 = x1) (h2 : arg3.view.read (Elt F) X_arg3 = x2)
    (h3 : arg4.view.read (Elt F) X_arg4 = x3) (h4 : arg5.view.read (Elt F) X_arg5 = x4)
    (f : BufTy.Contents (Elt F) arg10.view.ty)
    (h : RowsTo arg2 arg3 arg4 arg5 arg10 X_arg2 X_arg3 X_arg4 X_arg5 k0_t1_loop.trips f) :
    arg10.view.read (Elt F) f = decoded x1 x2 x3 x4 := by
  subst h1 h2 h3 h4
  funext y
  have hy : (y 0).val < 8960 := (y 0).isLt
  exact h y (by rw [trips_eq]; omega)

set_option maxHeartbeats 1600000 in
/-- At the first point the body decodes the weights and leaves the normalized rows times them. -/
theorem bodyA (c : Dev nD) (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (hc0 : k0_cond1 i = 1#1)
    (x0 : Vec F S256x8960 .bf16) (x1 : Vec F S35x2x64x1536 .i8) (x2 : Vec F S35x2x32x1536 .i8) (x3 : Vec F S35x16x1536 .i8)
    (x4 : Vec F S35x1536 .f16) (x5 : Vec F S1x8960 .f32) (x6 : Vec F S1x1536 .f32) (E : Set ℕ) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay4 (k0_pay3 x0 x5) (decoded x1 x2 x3 x4) x6) ∗ (∃ d, owns (c : Thread nD τ) arg9 fullShare d) ∗ owns (c : Thread nD τ) arg10 fullShare (decoded x1 x2 x3 x4) ∗ (∃ d, owns (c : Thread nD τ) arg11 fullShare d)) -∗ K ⟨⟩))
      ⊢ wp frame (wpE (defs₀ (F := F)) Variants.none c none) E (cc0_q6k_rmsnorm_linear i arg1 harg1 arg2 harg2 arg3 harg3 arg4 harg4 arg5 harg5 arg6 harg6 arg7 harg7 arg8 harg8 arg9 harg9 arg10 harg10 arg11 harg11) K := by
  simp only [cc0_q6k_rmsnorm_linear_eq_skeleton]; unfold cc0_q6k_rmsnorm_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  have hrows0 : RowsTo arg2 arg3 arg4 arg5 arg10 (harg2.unread x1) (harg3.unread x2) (harg4.unread x3) (harg5.unread x4) 0 fs1 :=
    fun y hy => absurd hy (by omega)
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full arg8.view f7 _ _ []).trans (congr (congrArg₂ k0_pay4 ?_ ?_) ?_)
    · refine (View.readCov_full arg11.view _ _ _ []).trans (congrArg₂ k0_pay3 ?_ ?_)
      · exact (View.readAt_full arg1.view _ _).trans (harg1.read_unread _)
      · exact (View.readAt_full arg6.view _ _).trans (harg6.read_unread _)
    · exact (View.readAt_full arg10.view _ _).trans (rows_all _ _ _ _ _ hf1 hf2 hf3 hf4 _ ‹_›)
    · exact (View.readAt_full arg7.view _ _).trans (harg7.read_unread _)
  isplitl [HS0]
  · iexists _, _; isplitr; swap; · iexact HS0
    ipureintro; rfl
  isplitl [HS1]
  · iexists _; isplitr; swap; · iexact HS1
    ipureintro; exact (rows_all _ _ _ _ _ hf1 hf2 hf3 hf4 _ ‹_›)
  iexists _, _; isplitr; swap; · iexact HS2
  ipureintro; rfl

set_option maxHeartbeats 1600000 in
/-- At a later point the body uses the weights that the scratch holds. -/
theorem bodyB (c : Dev nD) (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (hc0 : ¬ k0_cond1 i = 1#1)
    (x0 : Vec F S256x8960 .bf16) (x1 : Vec F S35x2x64x1536 .i8) (x2 : Vec F S35x2x32x1536 .i8) (x3 : Vec F S35x16x1536 .i8)
    (x4 : Vec F S35x1536 .f16) (x5 : Vec F S1x8960 .f32) (x6 : Vec F S1x1536 .f32) (w : Vec F S8960x1536 .bf16) (E : Set ℕ) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare w ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay4 (k0_pay3 x0 x5) w x6) ∗ (∃ d, owns (c : Thread nD τ) arg9 fullShare d) ∗ owns (c : Thread nD τ) arg10 fullShare w ∗ (∃ d, owns (c : Thread nD τ) arg11 fullShare d)) -∗ K ⟨⟩))
      ⊢ wp frame (wpE (defs₀ (F := F)) Variants.none c none) E (cc0_q6k_rmsnorm_linear i arg1 harg1 arg2 harg2 arg3 harg3 arg4 harg4 arg5 harg5 arg6 harg6 arg7 harg7 arg8 harg8 arg9 harg9 arg10 harg10 arg11 harg11) K := by
  simp only [cc0_q6k_rmsnorm_linear_eq_skeleton]; unfold cc0_q6k_rmsnorm_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full arg8.view f7 _ _ []).trans (congr (congrArg₂ k0_pay4 ?_ ?_) ?_)
    · refine (View.readCov_full arg11.view _ _ _ []).trans (congrArg₂ k0_pay3 ?_ ?_)
      · exact (View.readAt_full arg1.view _ _).trans (harg1.read_unread _)
      · exact (View.readAt_full arg6.view _ _).trans (harg6.read_unread _)
    · exact (View.readAt_full arg10.view _ _).trans hfs1
    · exact (View.readAt_full arg7.view _ _).trans (harg7.read_unread _)
  isplitl [HS0]
  · iexists _, _; isplitr; swap; · iexact HS0
    ipureintro; rfl
  isplitl [HS1]
  · iexists _; isplitr; swap; · iexact HS1
    ipureintro; exact hfs1
  iexists _, _; isplitr; swap; · iexact HS2
  ipureintro; rfl

end Cert.Kernel.Run

end
-- ==== Proof.Frame.lean ====
/- The frame of the kernel: the pipeline's proof data, with the output block and the weight scratch at stated contents, the
   body's obligation at every grid point, the run, and the claim that the arguments end unchanged. -/
module

public import proofs.«01_k».proof.Proof.Body
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, k0_cond1, e0]
    word_cmp
   : ∀ t : Fin grid0.N, cond0_0 (grid0.coords t) ↔ t.val % 48 = 0)

/-- Each window's current staging memref at point `t`, spelled as the pipeline passes it (`bodyAt0`), and its wholeness. -/
abbrev ms0_0 (t : Fin cfg0.N) : Memref sig .tc .vmem S256x8960 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S35x2x64x1536 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S35x2x32x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S35x16x1536 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S35x1536 .f16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8960 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1536 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x1536 .f32 := Memref.whole cc0_scratch0
abbrev scM0_1 : Memref sig .tc .vmem S8960x1536 .bf16 := Memref.whole cc0_scratch1
abbrev scM0_2 : Memref sig .tc .vmem S256x8960 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The weights the first point decodes and every later point finds in the scratch. -/
def weights (c : Dev nD) : Vec F S8960x1536 .bf16 :=
  decoded (iblk m c 1 ⟨0, by decide⟩) (iblk m c 2 ⟨0, by decide⟩) (iblk m c 3 ⟨0, by decide⟩) (iblk m c 4 ⟨0, by decide⟩)

/-- What the body leaves in the output block at point `t`. -/
def outAt (c : Dev nD) (t : Fin cfg0.N) : Vec F S256x1536 .bf16 :=
  k0_pay4 (k0_pay3 (iblk m c 0 t) (iblk m c 5 t)) (weights m c) (iblk m c 6 t)

/-- The region invariant before position `n` with a scratch the kernel CARRIES between points: before the first point the
    class's (Lib/Pipeline/Frame.lean `ΦA`: every scratch at anything); afterwards the scoped rest with each carried scratch
    at what the point before left in it (`weights`), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (weights m c) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (weights m c) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (weights m c) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outAt`; the invariant the class's
    (`PhiS`: the class's `ΦA` before the first point, then the scoped rest with the carried scratch at `weights`);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases hz : t.val = 0
    · rw [PhiS_castSucc m c t, PhiS_zero m c _ _ hz, PhiA0_eq]
      obtain rfl : t = ⟨0, by decide⟩ := Fin.ext hz
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyA c (grid0.coords _) _ _ _ _ _ _ _ _ _ _ _ _ _ _ _ _ _ _ _ _ _ _ ((hcond0_0 _).mpr h0) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; have hN : t.val < 48 := lt_of_lt_of_eq t.isLt (show cfg0.N = 48 from N_0); omega
  · by_cases hz : t.val = 0
    · exfalso; have hN : t.val < 48 := lt_of_lt_of_eq t.isLt (show cfg0.N = 48 from N_0); omega
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyB c (grid0.coords t) _ _ _ _ _ _ _ _ _ _ _ _ _ _ _ _ _ _ _ _ _ _ (fun h => h0 ((hcond0_0 t).mp h)) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim at any values: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Run

end
-- ==== Proof.DecodeIdeal.lean ====
/- What one trip of the kernel's decoding loop stores, read element by element: the weight `decoded` from the packed
   codes, the integer scales and the block factors. -/
module

public import proofs.«01_k».proof.Proof.Gen.KernelIdeal.Skeleton
public import proofs.«01_k».proof.Proof.Codes

@[expose] public section

set_option maxRecDepth 16384

noncomputable section

namespace Cert.KernelIdeal.Run

open Idealize.ShloMosaic Cert.KernelIdeal Cert.KernelIdeal.Gen Cert.Codes

variable {F : FTy → Type} [FloatOps F]

/-- A code as a number: the code less the offset 32. -/
def codeEl (f : Nat) (lo hi : BitVec 8) : F .bf16 :=
  FloatOps.subf (FloatOps.sitofp .bf16 (codeByte f lo hi)) (Scalar.ofBits .bf16 0x4200#16)

/-- A scale: the block's factor times the group's integer scale. -/
def scaleEl (sc : BitVec 8) (d : F .f16) : F .f32 :=
  FloatOps.mulf (FloatOps.extf .f32 bitsLt_f16_f32 d) (FloatOps.sitofp .f32 sc)

/-- A weight: the code as a number times the scale rounded to `bf16`. -/
def weightEl (f : Nat) (lo hi sc : BitVec 8) (d : F .f16) : F .bf16 :=
  FloatOps.mulf (codeEl f lo hi) (FloatOps.truncf .bf16 bitsLt_bf16_f32 (scaleEl sc d))

/-- The decoded weight matrix, input feature by output feature: row `e` lies in block `e / 256`, half `e / 128 % 2`, field
    `e / 32 % 4` and scale group `e / 16 % 16`. -/
def decoded (ql : Vec F S35x2x64x1536 .i8) (qh : Vec F S35x2x32x1536 .i8) (sc : Vec F S35x16x1536 .i8)
    (d : Vec F S35x1536 .f16) : Vec F S8960x1536 .bf16 := fun y =>
  have hy : (y 0).val < 8960 := (y 0).isLt
  weightEl ((y 0).val / 32 % 4)
    (ql (ix4 ⟨(y 0).val / 256, by omega⟩ ⟨(y 0).val / 128 % 2, by omega⟩ ⟨(y 0).val % 64, by omega⟩ (y 1)))
    (qh (ix4 ⟨(y 0).val / 256, by omega⟩ ⟨(y 0).val / 128 % 2, by omega⟩ ⟨(y 0).val % 32, by omega⟩ (y 1)))
    (sc (ix3 ⟨(y 0).val / 256, by omega⟩ ⟨(y 0).val / 16 % 16, by omega⟩ (y 1)))
    (d (ix2 ⟨(y 0).val / 256, by omega⟩ (y 1)))

/-- The words that the loop forms from a trip's words, for field `f`. -/
def fieldWords (f : Nat) (hf : f < 4) (lo : IVec S16x1536 32) (hi : IVec S8x1536 32) : IVec S8x1536 32 := fun j =>
  have hj : (j 0).val < 8 := (j 0).isLt
  codeWord f (lo (ix2 ⟨8 * (f % 2) + (j 0).val, by omega⟩ (j 1))) (hi j)

/-- Those words read as rows of bytes are the codes, element by element. -/
theorem fieldWords_apply (f : Nat) (hf : f < 4) (lo : Vec F S1x1x64x1536 .i8) (hi : Vec F S1x1x32x1536 .i8) (r : Fin 32)
    (l : Fin 1536) (h : S8x1536.Bitcasts 32 S32x1536 8) :
    bitcast S32x1536 8 (fieldWords f hf (k0_pay6 lo) (k0_pay7 hi)) h (ix2 r l)
      = codeByte f (lo (ix4 0 0 ⟨32 * (f % 2) + r.val, by omega⟩ l)) (hi (ix4 0 0 r l)) := by
  refine bitcast_32_8_ix2 _ h r l ⟨r.val / 4, by omega⟩ rfl _ ?_
  refine isByte_codeWord hf (by omega) ?_ ?_
  · have e := isByte_bitcast (shapeCast S64x1536 lo shapeCasts_S1x1x64x1536_S64x1536) bitcasts_S64x1536_w8_S16x1536_w32
      ⟨8 * (f % 2) + r.val / 4, by omega⟩ l (r.val % 4) (by omega) ⟨32 * (f % 2) + r.val, by omega⟩ (by dsimp only; omega)
    have e' : shapeCast S64x1536 lo shapeCasts_S1x1x64x1536_S64x1536 (ix2 ⟨32 * (f % 2) + r.val, by omega⟩ l)
        = lo (ix4 0 0 ⟨32 * (f % 2) + r.val, by omega⟩ l) := by pointwise
    rw [e'] at e
    exact e
  · have e := isByte_bitcast (shapeCast S32x1536 hi shapeCasts_S1x1x32x1536_S32x1536) bitcasts_S32x1536_w8_S8x1536_w32
      ⟨r.val / 4, by omega⟩ l (r.val % 4) (by omega) r (by dsimp only; omega)
    have e' : shapeCast S32x1536 hi shapeCasts_S1x1x32x1536_S32x1536 (ix2 r l) = hi (ix4 0 0 r l) := by pointwise
    rw [e'] at e
    exact e

/-- The numbers of the codes of field `f` of a half: what every field's payload computes. -/
def field (f : Nat) (hf : f < 4) (lo : IVec S16x1536 32) (hi : IVec S8x1536 32) : FVec F S32x1536 .bf16 :=
  subf (sitofp .bf16 (bitcast S32x1536 8 (fieldWords f hf lo hi) bitcasts_S8x1536_w32_S32x1536_w8))
    (broadcast S32x1536 (Scalar.ofBits .bf16 0x4200#16))

theorem field_apply (f : Nat) (hf : f < 4) (lo : Vec F S1x1x64x1536 .i8) (hi : Vec F S1x1x32x1536 .i8) (r : Fin 32)
    (l : Fin 1536) : field (F := F) f hf (k0_pay6 lo) (k0_pay7 hi) (ix2 r l)
      = codeEl f (lo (ix4 0 0 ⟨32 * (f % 2) + r.val, by omega⟩ l)) (hi (ix4 0 0 r l)) := by
  unfold field codeEl
  rw [← fieldWords_apply f hf lo hi r l bitcasts_S8x1536_w32_S32x1536_w8]
  rfl

/-- The first eight word rows, -/
theorem slice0 (x : IVec S16x1536 32) : extractStridedSlice S8x1536 ![0, 0] x slices_S16x1536_o0_0_S8x1536
    = fun j => x (ix2 ⟨0 + (j 0).val, by have : (j 0).val < 8 := (j 0).isLt; omega⟩ (j 1)) := by
  funext j; pointwise

/-- and the last eight. -/
theorem slice8 (x : IVec S16x1536 32) : extractStridedSlice S8x1536 ![8, 0] x slices_S16x1536_o8_0_S8x1536
    = fun j => x (ix2 ⟨8 + (j 0).val, by have : (j 0).val < 8 := (j 0).isLt; omega⟩ (j 1)) := by
  funext j; pointwise

/-- The field's numbers from any words equal to the field's. -/
theorem field_of (f : Nat) (hf : f < 4) (lo : IVec S16x1536 32) (hi w : IVec S8x1536 32)
    (hw : w = fieldWords f hf lo hi) : subf (sitofp .bf16 (bitcast S32x1536 8 w bitcasts_S8x1536_w32_S32x1536_w8))
      (broadcast S32x1536 (Scalar.ofBits .bf16 0x4200#16)) = field (F := F) f hf lo hi := by
  subst hw; rfl

/-! The eight payloads that form codes are the fields 0 to 3 of the two halves. -/

theorem pay8_eq (lo : Vec F S1x1x64x1536 .i8) (hi : Vec F S1x1x32x1536 .i8) :
    k0_pay8 lo hi = field 0 (by decide) (k0_pay6 lo) (k0_pay7 hi) :=
  field_of 0 _ _ _ _ (by rw [slice0]; rfl)
theorem pay12_eq (lo : IVec S16x1536 32) (hi : IVec S8x1536 32) : k0_pay12 (F := F) lo hi = field 1 (by decide) lo hi :=
  field_of 1 _ _ _ _ (by rw [slice8]; rfl)
theorem pay16_eq (lo : IVec S16x1536 32) (hi : IVec S8x1536 32) : k0_pay16 (F := F) lo hi = field 2 (by decide) lo hi :=
  field_of 2 _ _ _ _ (by rw [slice0]; rfl)
theorem pay20_eq (lo : IVec S16x1536 32) (hi : IVec S8x1536 32) : k0_pay20 (F := F) lo hi = field 3 (by decide) lo hi :=
  field_of 3 _ _ _ _ (by rw [slice8]; rfl)
theorem pay26_eq (lo : Vec F S1x1x64x1536 .i8) (hi : Vec F S1x1x32x1536 .i8) :
    k0_pay26 lo hi = field 0 (by decide) (k0_pay6 lo) (k0_pay7 hi) := pay8_eq lo hi
theorem pay30_eq (lo : IVec S16x1536 32) (hi : IVec S8x1536 32) : k0_pay30 (F := F) lo hi = field 1 (by decide) lo hi :=
  pay12_eq lo hi
theorem pay34_eq (lo : IVec S16x1536 32) (hi : IVec S8x1536 32) : k0_pay34 (F := F) lo hi = field 2 (by decide) lo hi :=
  pay16_eq lo hi
theorem pay39_eq (lo : IVec S16x1536 32) (hi : IVec S8x1536 32) : k0_pay39 (F := F) lo hi = field 3 (by decide) lo hi :=
  pay20_eq lo hi

/-- What every store of a trip computes: sixteen rows of a field's numbers, from row `16 p`, times a row of scales rounded
    to `bf16`. -/
def tile (p : Nat) (hp : p < 2) (c : FVec F S32x1536 .bf16) (s : Vec F S1x1536 .f32) : FVec F S16x1536 .bf16 := fun x =>
  have hx : (x 0).val < 16 := (x 0).isLt
  FloatOps.mulf (c (ix2 ⟨16 * p + (x 0).val, by omega⟩ (x 1))) (FloatOps.truncf .bf16 bitsLt_bf16_f32 (s (ix2 0 (x 1))))

theorem half0 (c : FVec F S32x1536 .bf16) (s : Vec F S1x1536 .f32) :
    shapeCast S16x1536 (mulf (extractStridedSlice S16x1536 ![0, 0] c slices_S32x1536_o0_0_S16x1536)
      (truncf .bf16 (broadcastTo S16x1536 (shapeCast S1x1536 s shapeCasts_S1x1536_S1x1536) broadcasts_S1x1536_S16x1536)
        bitsLt_bf16_f32)) shapeCasts_S16x1536_S16x1536 = tile 0 (by decide) c s := by
  funext j; pointwise [tile]

theorem half1 (c : FVec F S32x1536 .bf16) (s : Vec F S1x1536 .f32) :
    shapeCast S16x1536 (mulf (extractStridedSlice S16x1536 ![16, 0] c slices_S32x1536_o16_0_S16x1536)
      (truncf .bf16 (broadcastTo S16x1536 (shapeCast S1x1536 s shapeCasts_S1x1536_S1x1536) broadcasts_S1x1536_S16x1536)
        bitsLt_bf16_f32)) shapeCasts_S16x1536_S16x1536 = tile 1 (by decide) c s := by
  funext j; pointwise [tile]

/-- The decoded weight at an index, its coordinates named. -/
theorem decoded_at (ql : Vec F S35x2x64x1536 .i8) (qh : Vec F S35x2x32x1536 .i8) (sc : Vec F S35x16x1536 .i8)
    (d : Vec F S35x1536 .f16) (y : S8960x1536.Idx) (k : Fin 35) (h : Fin 2) (f : Nat) (b : Fin 64) (b' : Fin 32) (g : Fin 16)
    (l : Fin 1536) (a1 : k.val = (y 0).val / 256) (a2 : h.val = (y 0).val / 128 % 2) (a3 : f = (y 0).val / 32 % 4)
    (a4 : g.val = (y 0).val / 16 % 16) (a5 : b.val = (y 0).val % 64) (a6 : b'.val = (y 0).val % 32) (a7 : l.val = (y 1).val) :
    decoded ql qh sc d y = weightEl f (ql (ix4 k h b l)) (qh (ix4 k h b' l)) (sc (ix3 k g l)) (d (ix2 k l)) := by
  have key : ∀ (f' : Nat) (k' : Fin 35) (h' : Fin 2) (c : Fin 64) (c' : Fin 32) (g' : Fin 16) (l' : Fin 1536), f' = f → k' = k →
      h' = h → c = b → c' = b' → g' = g → l' = l →
      weightEl f' (ql (ix4 k' h' c l')) (qh (ix4 k' h' c' l')) (sc (ix3 k' g' l')) (d (ix2 k' l'))
        = weightEl f (ql (ix4 k h b l)) (qh (ix4 k h b' l)) (sc (ix3 k g l)) (d (ix2 k l)) := by
    rintro _ _ _ _ _ _ _ rfl rfl rfl rfl rfl rfl rfl; rfl
  exact key _ _ _ _ _ _ _ a3.symm (Fin.ext a1.symm) (Fin.ext a2.symm) (Fin.ext a5.symm) (Fin.ext a6.symm) (Fin.ext a4.symm)
    (Fin.ext a7.symm)

/-- A stored piece at an index, its coordinates named. -/
theorem tile_at (p : Nat) (hp : p < 2) (c : FVec F S32x1536 .bf16) (s : Vec F S1x1536 .f32) (x : S16x1536.Idx) (r : Fin 32)
    (l : Fin 1536) (hr : r.val = 16 * p + (x 0).val) (hl : l.val = (x 1).val) :
    tile p hp c s x = FloatOps.mulf (c (ix2 r l)) (FloatOps.truncf .bf16 bitsLt_bf16_f32 (s (ix2 0 l))) := by
  have key : ∀ (r' : Fin 32) (l' : Fin 1536), r' = r → l' = l →
      FloatOps.mulf (c (ix2 r' l')) (FloatOps.truncf .bf16 bitsLt_bf16_f32 (s (ix2 0 l')))
        = FloatOps.mulf (c (ix2 r l)) (FloatOps.truncf .bf16 bitsLt_bf16_f32 (s (ix2 0 l))) := by
    rintro _ _ rfl rfl; rfl
  exact key _ _ (Fin.ext hr.symm) (Fin.ext hl.symm)

/-- A stored piece of trip `k` is sixteen rows of the decoded weights, from row `256 k + 16 (8 h + 2 f + p)` on. -/
theorem tile_decoded (ql : Vec F S35x2x64x1536 .i8) (qh : Vec F S35x2x32x1536 .i8) (sc : Vec F S35x16x1536 .i8)
    (d : Vec F S35x1536 .f16) (k : Fin 35) (h : Fin 2) (f p : Nat) (hf : f < 4) (hp : p < 2) (lo : Vec F S1x1x64x1536 .i8)
    (hi : Vec F S1x1x32x1536 .i8) (s : Vec F S1x1536 .f32) (hlo : ∀ b l, lo (ix4 0 0 b l) = ql (ix4 k h b l))
    (hhi : ∀ b l, hi (ix4 0 0 b l) = qh (ix4 k h b l)) (g : Fin 16) (hg : g.val = 8 * h.val + 2 * f + p)
    (hs : ∀ l, s (ix2 0 l) = scaleEl (sc (ix3 k g l)) (d (ix2 k l)))
    (x : S16x1536.Idx) (y : S8960x1536.Idx) (h0 : (y 0).val = 256 * k.val + 16 * g.val + (x 0).val)
    (h1 : (y 1).val = (x 1).val) :
    tile p hp (field f hf (k0_pay6 lo) (k0_pay7 hi)) s x = decoded ql qh sc d y := by
  obtain ⟨r, hr⟩ : ∃ r : Fin 16, r.val = (x 0).val := ⟨⟨(x 0).val, (x 0).isLt⟩, rfl⟩
  obtain ⟨l, hl⟩ : ∃ l : Fin 1536, l.val = (x 1).val := ⟨⟨(x 1).val, (x 1).isLt⟩, rfl⟩
  rw [tile_at p hp _ s x ⟨16 * p + r.val, by omega⟩ l (by dsimp only; omega) hl, field_apply, hlo, hhi, hs,
    decoded_at ql qh sc d y k h f ⟨32 * (f % 2) + (16 * p + r.val), by omega⟩ ⟨16 * p + r.val, by omega⟩ g l
      (by omega) (by omega) (by omega) (by omega) (by dsimp only; omega) (by dsimp only; omega) (by omega)]
  rfl

/-! Each store of a trip, from the words it loads: rows of a field times a row of scales. -/

theorem store0 (lo : Vec F S1x1x64x1536 .i8) (hi : Vec F S1x1x32x1536 .i8) (s : Vec F S1x1536 .f32) :
    k0_pay10 (k0_pay8 lo hi) (k0_pay9 s) = tile 0 (by decide) (field 0 (by decide) (k0_pay6 lo) (k0_pay7 hi)) s :=
  (half0 _ s).trans (congrArg (tile 0 (by decide) · s) (pay8_eq lo hi))
theorem store1 (lo : Vec F S1x1x64x1536 .i8) (hi : Vec F S1x1x32x1536 .i8) (s : Vec F S1x1536 .f32) :
    k0_pay11 (k0_pay8 lo hi) s = tile 1 (by decide) (field 0 (by decide) (k0_pay6 lo) (k0_pay7 hi)) s :=
  (half1 _ s).trans (congrArg (tile 1 (by decide) · s) (pay8_eq lo hi))
theorem store2 (lo : IVec S16x1536 32) (hi : IVec S8x1536 32) (s : Vec F S1x1536 .f32) :
    k0_pay14 (k0_pay12 lo hi) (k0_pay13 s) = tile 0 (by decide) (field 1 (by decide) lo hi) s :=
  (half0 _ s).trans (congrArg (tile 0 (by decide) · s) (pay12_eq lo hi))
theorem store3 (lo : IVec S16x1536 32) (hi : IVec S8x1536 32) (s : Vec F S1x1536 .f32) :
    k0_pay15 (k0_pay12 lo hi) s = tile 1 (by decide) (field 1 (by decide) lo hi) s :=
  (half1 _ s).trans (congrArg (tile 1 (by decide) · s) (pay12_eq lo hi))
theorem store4 (lo : IVec S16x1536 32) (hi : IVec S8x1536 32) (s : Vec F S1x1536 .f32) :
    k0_pay18 (k0_pay17 lo hi s) = tile 0 (by decide) (field 2 (by decide) lo hi) s :=
  (half0 _ s).trans (congrArg (tile 0 (by decide) · s) (pay16_eq lo hi))
theorem store5 (lo : IVec S16x1536 32) (hi : IVec S8x1536 32) (s : Vec F S1x1536 .f32) :
    k0_pay19 (k0_pay16 lo hi) s = tile 1 (by decide) (field 2 (by decide) lo hi) s :=
  (half1 _ s).trans (congrArg (tile 1 (by decide) · s) (pay16_eq lo hi))
theorem store6 (lo : IVec S16x1536 32) (hi : IVec S8x1536 32) (s : Vec F S1x1536 .f32) :
    k0_pay22 (k0_pay21 lo hi s) = tile 0 (by decide) (field 3 (by decide) lo hi) s :=
  (half0 _ s).trans (congrArg (tile 0 (by decide) · s) (pay20_eq lo hi))
theorem store7 (lo : IVec S16x1536 32) (hi : IVec S8x1536 32) (s : Vec F S1x1536 .f32) :
    k0_pay23 (k0_pay20 lo hi) s = tile 1 (by decide) (field 3 (by decide) lo hi) s :=
  (half1 _ s).trans (congrArg (tile 1 (by decide) · s) (pay20_eq lo hi))
theorem store8 (lo : Vec F S1x1x64x1536 .i8) (hi : Vec F S1x1x32x1536 .i8) (s : Vec F S1x1536 .f32) :
    k0_pay28 (k0_pay26 lo hi) (k0_pay27 s) = tile 0 (by decide) (field 0 (by decide) (k0_pay6 lo) (k0_pay7 hi)) s :=
  (half0 _ s).trans (congrArg (tile 0 (by decide) · s) (pay26_eq lo hi))
theorem store9 (lo : Vec F S1x1x64x1536 .i8) (hi : Vec F S1x1x32x1536 .i8) (s : Vec F S1x1536 .f32) :
    k0_pay29 (k0_pay26 lo hi) s = tile 1 (by decide) (field 0 (by decide) (k0_pay6 lo) (k0_pay7 hi)) s :=
  (half1 _ s).trans (congrArg (tile 1 (by decide) · s) (pay26_eq lo hi))
theorem store10 (lo : IVec S16x1536 32) (hi : IVec S8x1536 32) (s : Vec F S1x1536 .f32) :
    k0_pay32 (k0_pay30 lo hi) (k0_pay31 s) = tile 0 (by decide) (field 1 (by decide) lo hi) s :=
  (half0 _ s).trans (congrArg (tile 0 (by decide) · s) (pay30_eq lo hi))
theorem store11 (lo : IVec S16x1536 32) (hi : IVec S8x1536 32) (s : Vec F S1x1536 .f32) :
    k0_pay33 (k0_pay30 lo hi) s = tile 1 (by decide) (field 1 (by decide) lo hi) s :=
  (half1 _ s).trans (congrArg (tile 1 (by decide) · s) (pay30_eq lo hi))
theorem store12 (lo : IVec S16x1536 32) (hi : IVec S8x1536 32) (s : Vec F S1x1536 .f32) :
    k0_pay37 (k0_pay35 s) (k0_pay36 lo hi) = tile 0 (by decide) (field 2 (by decide) lo hi) s :=
  (half0 _ s).trans (congrArg (tile 0 (by decide) · s) (pay34_eq lo hi))
theorem store13 (lo : IVec S16x1536 32) (hi : IVec S8x1536 32) (s : Vec F S1x1536 .f32) :
    k0_pay38 (k0_pay34 lo hi) s = tile 1 (by decide) (field 2 (by decide) lo hi) s :=
  (half1 _ s).trans (congrArg (tile 1 (by decide) · s) (pay34_eq lo hi))
theorem store14 (lo : IVec S16x1536 32) (hi : IVec S8x1536 32) (s : Vec F S1x1536 .f32) :
    k0_pay1 (k0_pay40 lo hi s) = tile 0 (by decide) (field 3 (by decide) lo hi) s :=
  (half0 _ s).trans (congrArg (tile 0 (by decide) · s) (pay39_eq lo hi))
theorem store15 (lo : IVec S16x1536 32) (hi : IVec S8x1536 32) (s : Vec F S1x1536 .f32) :
    k0_pay2 (k0_pay39 lo hi) s = tile 1 (by decide) (field 3 (by decide) lo hi) s :=
  (half1 _ s).trans (congrArg (tile 1 (by decide) · s) (pay39_eq lo hi))

end Cert.KernelIdeal.Run

end
-- ==== Proof.TripIdeal.lean ====
/- One trip of the kernel's decoding loop, run, and the loop's invariant: before trip `k` the rows below `256 k` of the
   weight scratch hold the decoded weights. -/
module

public import proofs.«01_k».proof.Proof.Gen.KernelIdeal.Launch
public import proofs.«01_k».proof.Proof.DecodeIdeal
public import Idealize.ShloMosaic.Lib.Tactic
public import Idealize.ShloMosaic.Lib.VecWindow

@[expose] public section

set_option maxRecDepth 16384

noncomputable section

namespace Cert.KernelIdeal.Run

open Cert.KernelIdeal Cert.KernelIdeal.Gen Cert.Codes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The low codes that a trip loads for half `h` are row `(k, h)` of the array. -/
theorem lo_read (arg2 : Memref sig .tc .vmem S35x2x64x1536 .i8) (X : arg2.view.ty.Contents (Elt F)) (k : Fin 35) (h : Fin 2)
    (off : Fin S35x2x64x1536.rank → ℕ) (inb : ∀ a, off a + S1x1x64x1536.size a ≤ S35x2x64x1536.size a) (ho : off = ![k.val, h.val, 0, 0])
    (b : Fin 64) (l : Fin 1536) :
    View.readAt (Elt F) arg2.view (Rect.unit (s := S35x2x64x1536) off S1x1x64x1536.size inb).toLoadRect X (ix4 0 0 b l)
      = arg2.view.read (Elt F) X (ix4 k h b l) := by
  subst ho
  refine congrArg (arg2.view.read (Elt F) X) (funext fun a => Fin.ext ?_)
  fin_cases a <;> simp

/-- The high codes that a trip loads for half `h` are row `(k, h)` of the array. -/
theorem hi_read (arg3 : Memref sig .tc .vmem S35x2x32x1536 .i8) (X : arg3.view.ty.Contents (Elt F)) (k : Fin 35) (h : Fin 2)
    (off : Fin S35x2x32x1536.rank → ℕ) (inb : ∀ a, off a + S1x1x32x1536.size a ≤ S35x2x32x1536.size a) (ho : off = ![k.val, h.val, 0, 0])
    (b : Fin 32) (l : Fin 1536) :
    View.readAt (Elt F) arg3.view (Rect.unit (s := S35x2x32x1536) off S1x1x32x1536.size inb).toLoadRect X (ix4 0 0 b l)
      = arg3.view.read (Elt F) X (ix4 k h b l) := by
  subst ho
  refine congrArg (arg3.view.read (Elt F) X) (funext fun a => Fin.ext ?_)
  fin_cases a <;> simp

/-- The integer scales that a trip loads are row `k` of the array. -/
theorem sc_read (arg4 : Memref sig .tc .vmem S35x16x1536 .i8) (X : arg4.view.ty.Contents (Elt F)) (k : Fin 35)
    (off : Fin S35x16x1536.rank → ℕ) (inb : ∀ a, off a + S1x16x1536.size a ≤ S35x16x1536.size a) (ho : off = ![k.val, 0, 0])
    (g : Fin 16) (l : Fin 1536) :
    View.readAt (Elt F) arg4.view (Rect.unit (s := S35x16x1536) off S1x16x1536.size inb).toLoadRect X (ix3 0 g l)
      = arg4.view.read (Elt F) X (ix3 k g l) := by
  subst ho
  refine congrArg (arg4.view.read (Elt F) X) (funext fun a => Fin.ext ?_)
  fin_cases a <;> simp

/-- The factors that a trip loads are row `k` of the array. -/
theorem d_read (arg5 : Memref sig .tc .vmem S35x1536 .f16) (X : arg5.view.ty.Contents (Elt F)) (k : Fin 35)
    (off : Fin S35x1536.rank → ℕ) (inb : ∀ a, off a + S1x1536.size a ≤ S35x1536.size a) (ho : off = ![k.val, 0]) (l : Fin 1536) :
    View.readAt (Elt F) arg5.view (Rect.unit (s := S35x1536) off S1x1536.size inb).toLoadRect X (ix2 0 l)
      = arg5.view.read (Elt F) X (ix2 k l) := by
  subst ho
  refine congrArg (arg5.view.read (Elt F) X) (funext fun a => Fin.ext ?_)
  fin_cases a <;> simp

/-- The scales a trip computes, element by element. -/
theorem pay5_apply (v35 : Vec F S1x1536 .f16) (v39 : Vec F S1x16x1536 .i8) (g : Fin 16) (l : Fin 1536) :
    k0_pay5 v35 v39 (ix2 g l) = scaleEl (v39 (ix3 0 g l)) (v35 (ix2 0 l)) := by
  unfold k0_pay5
  pointwise [scaleEl]

/-- The scale row that a piece loads back from the scale scratch is row `g` of the scales stored there. -/
theorem scale_read (arg9 : Memref sig .tc .vmem S16x1536 .f32) (w : Vec F S16x1536 .f32) (off0 : Fin S16x1536.rank → ℕ)
    (inb0 : ∀ a, off0 a + S16x1536.size a ≤ S16x1536.size a) (g : Fin 16)
    (inb : ∀ a, (![g.val, 0] : Fin S16x1536.rank → ℕ) a + S1x1536.size a ≤ S16x1536.size a) (l : Fin 1536) :
    arg9.view.readCov [(⟨Rect.unit (s := S16x1536) off0 S16x1536.size inb0, w⟩ : View.Piece (Elt F) S16x1536 (.f32))] (Rect.unit (s := S16x1536) ![g.val, 0] S1x1536.size inb).toLoadRect (ix2 0 l)
      = w (ix2 g l) := by
  refine (congrFun (View.read_writes_full arg9.view arg9.view.junk inb0 w []) _).trans (congrArg w (funext fun a => Fin.ext ?_))
  fin_cases a <;> simp

theorem inb_rows (k : Fin 35) (g : Fin 16) (a : Fin S8960x1536.rank) :
    (![256 * k.val + 16 * g.val, 0] : Fin S8960x1536.rank → ℕ) a + S16x1536.size a ≤ S8960x1536.size a := by
  have := g.isLt
  have := k.isLt
  fin_cases a
  · simp; omega
  · simp

/-- The weight scratch holds the decoded weights in its rows below `256 k`. -/
def RowsTo (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg10 : Memref sig .tc .vmem S8960x1536 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : ℕ) (f : BufTy.Contents (Elt F) arg10.view.ty) : Prop :=
  ∀ y : S8960x1536.Idx, (y 0).val < 256 * k → arg10.view.read (Elt F) f y
    = decoded (arg2.view.read (Elt F) X_arg2) (arg3.view.read (Elt F) X_arg3) (arg4.view.read (Elt F) X_arg4)
        (arg5.view.read (Elt F) X_arg5) y

/-- A piece stored at rows from `256 k + 16 g` on holds the decoded weights there. -/
def Holds (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin 35) (g : Fin 16) (w : Vec F S16x1536 .bf16) : Prop :=
  ∀ (x : S16x1536.Idx) (y : S8960x1536.Idx), (y 0).val = 256 * k.val + 16 * g.val + (x 0).val → (y 1).val = (x 1).val →
    w x = decoded (arg2.view.read (Elt F) X_arg2) (arg3.view.read (Elt F) X_arg3)
        (arg4.view.read (Elt F) X_arg4) (arg5.view.read (Elt F) X_arg5) y

/-- A trip's sixteen stored pieces, each holding the decoded weights over its sixteen rows, extend the decoded rows by 256. -/
theorem rows_step (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg10 : Memref sig .tc .vmem S8960x1536 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin 35) (f : BufTy.Contents (Elt F) arg10.view.ty)
    (off : Fin 16 → Fin S8960x1536.rank → ℕ) (inb : ∀ g a, off g a + S16x1536.size a ≤ S8960x1536.size a)
    (hoff : ∀ g, off g = ![256 * k.val + 16 * g.val, 0])
    (w : Fin 16 → Vec F S16x1536 .bf16) (L : List (View.Piece (Elt F) S8960x1536 .bf16))
    (hL : L = [⟨Rect.unit (s := S8960x1536) (off 15) S16x1536.size (inb 15), w 15⟩,
      ⟨Rect.unit (s := S8960x1536) (off 14) S16x1536.size (inb 14), w 14⟩,
      ⟨Rect.unit (s := S8960x1536) (off 13) S16x1536.size (inb 13), w 13⟩,
      ⟨Rect.unit (s := S8960x1536) (off 12) S16x1536.size (inb 12), w 12⟩,
      ⟨Rect.unit (s := S8960x1536) (off 11) S16x1536.size (inb 11), w 11⟩,
      ⟨Rect.unit (s := S8960x1536) (off 10) S16x1536.size (inb 10), w 10⟩,
      ⟨Rect.unit (s := S8960x1536) (off 9) S16x1536.size (inb 9), w 9⟩,
      ⟨Rect.unit (s := S8960x1536) (off 8) S16x1536.size (inb 8), w 8⟩,
      ⟨Rect.unit (s := S8960x1536) (off 7) S16x1536.size (inb 7), w 7⟩,
      ⟨Rect.unit (s := S8960x1536) (off 6) S16x1536.size (inb 6), w 6⟩,
      ⟨Rect.unit (s := S8960x1536) (off 5) S16x1536.size (inb 5), w 5⟩,
      ⟨Rect.unit (s := S8960x1536) (off 4) S16x1536.size (inb 4), w 4⟩,
      ⟨Rect.unit (s := S8960x1536) (off 3) S16x1536.size (inb 3), w 3⟩,
      ⟨Rect.unit (s := S8960x1536) (off 2) S16x1536.size (inb 2), w 2⟩,
      ⟨Rect.unit (s := S8960x1536) (off 1) S16x1536.size (inb 1), w 1⟩,
      ⟨Rect.unit (s := S8960x1536) (off 0) S16x1536.size (inb 0), w 0⟩])
    (hw : ∀ g, Holds arg2 arg3 arg4 arg5 X_arg2 X_arg3 X_arg4 X_arg5 k g (w g))
    (hrows : RowsTo arg2 arg3 arg4 arg5 arg10 X_arg2 X_arg3 X_arg4 X_arg5 (k.val) f) :
    RowsTo arg2 arg3 arg4 arg5 arg10 X_arg2 X_arg3 X_arg4 X_arg5 (k.val + 1) (arg10.view.writes (Elt F) f L) := by
  intro y hy
  replace hL : L = (List.finRange 16).reverse.map fun g =>
    (⟨Rect.unit (s := S8960x1536) (off g) S16x1536.size (inb g), w g⟩ : View.Piece (Elt F) S8960x1536 .bf16) := hL.trans rfl
  subst hL
  by_cases hlt : (y 0).val < 256 * k.val
  · refine (View.read_writes_apply_of_forall_not_mem arg10.view _ y _ ?_).trans (hrows y hlt)
    intro p hp
    obtain ⟨g, _, rfl⟩ := List.mem_map.1 hp
    intro hm
    have hm' : y ∈ (Rect.unit (s := S8960x1536) (off g) S16x1536.size (inb g)).set := hm
    have h0 := (Rect.mem_set_unit.1 hm') 0
    have e : off g 0 = 256 * k.val + 16 * g.val := congrFun (hoff g) 0
    omega
  · refine View.read_writes_apply_of_pieces arg10.view f _ _ ?_ y ?_
    · intro p hp x
      obtain ⟨g, _, rfl⟩ := List.mem_map.1 hp
      refine hw g x _ ?_ ?_
      · have e : off g 0 = 256 * k.val + 16 * g.val := congrFun (hoff g) 0
        show off g 0 + 1 * (x 0).val = _
        omega
      · have e : off g 1 = 0 := congrFun (hoff g) 1
        show off g 1 + 1 * (x 1).val = _
        omega
    · obtain ⟨g, hg⟩ : ∃ g : Fin 16, g.val = ((y 0).val - 256 * k.val) / 16 := ⟨⟨((y 0).val - 256 * k.val) / 16, by omega⟩, rfl⟩
      refine ⟨_, List.mem_map.2 ⟨g, by simp, rfl⟩, (Rect.mem_set_unit (inb := inb g)).2 fun a => ?_⟩
      have h1 : (y 1).val < 1536 := (y 1).isLt
      rw [hoff g]
      fin_cases a
      · simp; omega
      · simp; omega

theorem inb_row (g : Fin 16) (a : Fin S16x1536.rank) :
    (![g.val, 0] : Fin S16x1536.rank → ℕ) a + S1x1536.size a ≤ S16x1536.size a := by
  have := g.isLt
  fin_cases a
  · simp; try omega
  · simp

theorem inb_whole (a : Fin S16x1536.rank) : (![0, 0] : Fin S16x1536.rank → ℕ) a + S16x1536.size a ≤ S16x1536.size a := by
  fin_cases a <;> simp

/-- Row `g` of the trip's scales, as a piece loads it back from the scale scratch. -/
abbrev scaleRow (arg9 : Memref sig .tc .vmem S16x1536 .f32) (v35 : Vec F S1x1536 .f16) (v39 : Vec F S1x16x1536 .i8) (g : Fin 16) :
    Vec F S1x1536 .f32 :=
  arg9.view.readCov [(⟨Rect.unit (s := S16x1536) ![0, 0] S16x1536.size inb_whole, k0_pay5 v35 v39⟩ :
    View.Piece (Elt F) S16x1536 (.f32))] (Rect.unit (s := S16x1536) ![g.val, 0] S1x1536.size (inb_row g)).toLoadRect

/-- A store that computes its sixteen rows of a field, from loads that read the trip's rows, holds the decoded weights. -/
theorem holds_of (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg9 : Memref sig .tc .vmem S16x1536 .f32)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin 35) (h : Fin 2) (f p : Nat) (hf : f < 4) (hp : p < 2)
    (lo : Vec F S1x1x64x1536 .i8) (hi : Vec F S1x1x32x1536 .i8) (v35 : Vec F S1x1536 .f16) (v39 : Vec F S1x16x1536 .i8)
    (hlo : ∀ b l, lo (ix4 0 0 b l) = arg2.view.read (Elt F) X_arg2 (ix4 k h b l))
    (hhi : ∀ b l, hi (ix4 0 0 b l) = arg3.view.read (Elt F) X_arg3 (ix4 k h b l))
    (hv39 : ∀ g l, v39 (ix3 0 g l) = arg4.view.read (Elt F) X_arg4 (ix3 k g l))
    (hv35 : ∀ l, v35 (ix2 0 l) = arg5.view.read (Elt F) X_arg5 (ix2 k l))
    (g : Fin 16) (hg : g.val = 8 * h.val + 2 * f + p) (w : Vec F S16x1536 .bf16)
    (e : w = tile p hp (field f hf (k0_pay6 lo) (k0_pay7 hi)) (scaleRow arg9 v35 v39 g)) :
    Holds arg2 arg3 arg4 arg5 X_arg2 X_arg3 X_arg4 X_arg5 k g w := by
  subst e
  intro x y h0 h1
  refine tile_decoded _ _ _ _ k h f p hf hp lo hi _ hlo hhi g hg ?_ x y h0 h1
  intro l
  refine (scale_read arg9 (k0_pay5 v35 v39) _ _ g _ l).trans ?_
  rw [pay5_apply, hv39, hv35]

/-- A trip's stores, from what the trip loads, extend the decoded rows by 256. -/
theorem rows_trip (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg9 : Memref sig .tc .vmem S16x1536 .f32) (arg10 : Memref sig .tc .vmem S8960x1536 .bf16)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin 35)
    (f : BufTy.Contents (Elt F) arg10.view.ty)
    (off : Fin 16 → Fin S8960x1536.rank → ℕ) (inb : ∀ g a, off g a + S16x1536.size a ≤ S8960x1536.size a)
    (hoff : ∀ g, off g = ![256 * k.val + 16 * g.val, 0])
    (lo : Fin 2 → Vec F S1x1x64x1536 .i8) (hi : Fin 2 → Vec F S1x1x32x1536 .i8) (v35 : Vec F S1x1536 .f16) (v39 : Vec F S1x16x1536 .i8)
    (hlo : ∀ h b l, lo h (ix4 0 0 b l) = arg2.view.read (Elt F) X_arg2 (ix4 k h b l))
    (hhi : ∀ h b l, hi h (ix4 0 0 b l) = arg3.view.read (Elt F) X_arg3 (ix4 k h b l))
    (hv39 : ∀ g l, v39 (ix3 0 g l) = arg4.view.read (Elt F) X_arg4 (ix3 k g l))
    (hv35 : ∀ l, v35 (ix2 0 l) = arg5.view.read (Elt F) X_arg5 (ix2 k l))
    (hrows : RowsTo arg2 arg3 arg4 arg5 arg10 X_arg2 X_arg3 X_arg4 X_arg5 (k.val) f) :
    RowsTo arg2 arg3 arg4 arg5 arg10 X_arg2 X_arg3 X_arg4 X_arg5 (k.val + 1)
        (arg10.view.writes (Elt F) f [⟨Rect.unit (s := S8960x1536) (off 15) S16x1536.size (inb 15), k0_pay2 (k0_pay39 (k0_pay24 (lo 1)) (k0_pay25 (hi 1))) (scaleRow arg9 v35 v39 15)⟩,
          ⟨Rect.unit (s := S8960x1536) (off 14) S16x1536.size (inb 14), k0_pay1 (k0_pay40 (k0_pay24 (lo 1)) (k0_pay25 (hi 1)) (scaleRow arg9 v35 v39 14))⟩,
          ⟨Rect.unit (s := S8960x1536) (off 13) S16x1536.size (inb 13), k0_pay38 (k0_pay34 (k0_pay24 (lo 1)) (k0_pay25 (hi 1))) (scaleRow arg9 v35 v39 13)⟩,
          ⟨Rect.unit (s := S8960x1536) (off 12) S16x1536.size (inb 12), k0_pay37 (k0_pay35 (scaleRow arg9 v35 v39 12)) (k0_pay36 (k0_pay24 (lo 1)) (k0_pay25 (hi 1)))⟩,
          ⟨Rect.unit (s := S8960x1536) (off 11) S16x1536.size (inb 11), k0_pay33 (k0_pay30 (k0_pay24 (lo 1)) (k0_pay25 (hi 1))) (scaleRow arg9 v35 v39 11)⟩,
          ⟨Rect.unit (s := S8960x1536) (off 10) S16x1536.size (inb 10), k0_pay32 (k0_pay30 (k0_pay24 (lo 1)) (k0_pay25 (hi 1))) (k0_pay31 (scaleRow arg9 v35 v39 10))⟩,
          ⟨Rect.unit (s := S8960x1536) (off 9) S16x1536.size (inb 9), k0_pay29 (k0_pay26 (lo 1) (hi 1)) (scaleRow arg9 v35 v39 9)⟩,
          ⟨Rect.unit (s := S8960x1536) (off 8) S16x1536.size (inb 8), k0_pay28 (k0_pay26 (lo 1) (hi 1)) (k0_pay27 (scaleRow arg9 v35 v39 8))⟩,
          ⟨Rect.unit (s := S8960x1536) (off 7) S16x1536.size (inb 7), k0_pay23 (k0_pay20 (k0_pay6 (lo 0)) (k0_pay7 (hi 0))) (scaleRow arg9 v35 v39 7)⟩,
          ⟨Rect.unit (s := S8960x1536) (off 6) S16x1536.size (inb 6), k0_pay22 (k0_pay21 (k0_pay6 (lo 0)) (k0_pay7 (hi 0)) (scaleRow arg9 v35 v39 6))⟩,
          ⟨Rect.unit (s := S8960x1536) (off 5) S16x1536.size (inb 5), k0_pay19 (k0_pay16 (k0_pay6 (lo 0)) (k0_pay7 (hi 0))) (scaleRow arg9 v35 v39 5)⟩,
          ⟨Rect.unit (s := S8960x1536) (off 4) S16x1536.size (inb 4), k0_pay18 (k0_pay17 (k0_pay6 (lo 0)) (k0_pay7 (hi 0)) (scaleRow arg9 v35 v39 4))⟩,
          ⟨Rect.unit (s := S8960x1536) (off 3) S16x1536.size (inb 3), k0_pay15 (k0_pay12 (k0_pay6 (lo 0)) (k0_pay7 (hi 0))) (scaleRow arg9 v35 v39 3)⟩,
          ⟨Rect.unit (s := S8960x1536) (off 2) S16x1536.size (inb 2), k0_pay14 (k0_pay12 (k0_pay6 (lo 0)) (k0_pay7 (hi 0))) (k0_pay13 (scaleRow arg9 v35 v39 2))⟩,
          ⟨Rect.unit (s := S8960x1536) (off 1) S16x1536.size (inb 1), k0_pay11 (k0_pay8 (lo 0) (hi 0)) (scaleRow arg9 v35 v39 1)⟩,
          ⟨Rect.unit (s := S8960x1536) (off 0) S16x1536.size (inb 0), k0_pay10 (k0_pay8 (lo 0) (hi 0)) (k0_pay9 (scaleRow arg9 v35 v39 0))⟩]) := by
  refine rows_step arg2 arg3 arg4 arg5 arg10 X_arg2 X_arg3 X_arg4 X_arg5 k f off inb hoff
    ![k0_pay10 (k0_pay8 (lo 0) (hi 0)) (k0_pay9 (scaleRow arg9 v35 v39 0)),
      k0_pay11 (k0_pay8 (lo 0) (hi 0)) (scaleRow arg9 v35 v39 1),
      k0_pay14 (k0_pay12 (k0_pay6 (lo 0)) (k0_pay7 (hi 0))) (k0_pay13 (scaleRow arg9 v35 v39 2)),
      k0_pay15 (k0_pay12 (k0_pay6 (lo 0)) (k0_pay7 (hi 0))) (scaleRow arg9 v35 v39 3),
      k0_pay18 (k0_pay17 (k0_pay6 (lo 0)) (k0_pay7 (hi 0)) (scaleRow arg9 v35 v39 4)),
      k0_pay19 (k0_pay16 (k0_pay6 (lo 0)) (k0_pay7 (hi 0))) (scaleRow arg9 v35 v39 5),
      k0_pay22 (k0_pay21 (k0_pay6 (lo 0)) (k0_pay7 (hi 0)) (scaleRow arg9 v35 v39 6)),
      k0_pay23 (k0_pay20 (k0_pay6 (lo 0)) (k0_pay7 (hi 0))) (scaleRow arg9 v35 v39 7),
      k0_pay28 (k0_pay26 (lo 1) (hi 1)) (k0_pay27 (scaleRow arg9 v35 v39 8)),
      k0_pay29 (k0_pay26 (lo 1) (hi 1)) (scaleRow arg9 v35 v39 9),
      k0_pay32 (k0_pay30 (k0_pay24 (lo 1)) (k0_pay25 (hi 1))) (k0_pay31 (scaleRow arg9 v35 v39 10)),
      k0_pay33 (k0_pay30 (k0_pay24 (lo 1)) (k0_pay25 (hi 1))) (scaleRow arg9 v35 v39 11),
      k0_pay37 (k0_pay35 (scaleRow arg9 v35 v39 12)) (k0_pay36 (k0_pay24 (lo 1)) (k0_pay25 (hi 1))),
      k0_pay38 (k0_pay34 (k0_pay24 (lo 1)) (k0_pay25 (hi 1))) (scaleRow arg9 v35 v39 13),
      k0_pay1 (k0_pay40 (k0_pay24 (lo 1)) (k0_pay25 (hi 1)) (scaleRow arg9 v35 v39 14)),
      k0_pay2 (k0_pay39 (k0_pay24 (lo 1)) (k0_pay25 (hi 1))) (scaleRow arg9 v35 v39 15)] _ rfl ?_ hrows
  have H := fun (h : Fin 2) (f p : Nat) (hf : f < 4) (hp : p < 2) =>
    holds_of arg2 arg3 arg4 arg5 arg9 X_arg2 X_arg3 X_arg4 X_arg5 k h f p hf hp (lo h) (hi h) v35 v39 (hlo h) (hhi h) hv39 hv35
  intro g
  match g with
  | 0 => exact H 0 0 0 (by decide) (by decide) 0 rfl _ (store0 (lo 0) (hi 0) _)
  | 1 => exact H 0 0 1 (by decide) (by decide) 1 rfl _ (store1 (lo 0) (hi 0) _)
  | 2 => exact H 0 1 0 (by decide) (by decide) 2 rfl _ (store2 (k0_pay6 (lo 0)) (k0_pay7 (hi 0)) _)
  | 3 => exact H 0 1 1 (by decide) (by decide) 3 rfl _ (store3 (k0_pay6 (lo 0)) (k0_pay7 (hi 0)) _)
  | 4 => exact H 0 2 0 (by decide) (by decide) 4 rfl _ (store4 (k0_pay6 (lo 0)) (k0_pay7 (hi 0)) _)
  | 5 => exact H 0 2 1 (by decide) (by decide) 5 rfl _ (store5 (k0_pay6 (lo 0)) (k0_pay7 (hi 0)) _)
  | 6 => exact H 0 3 0 (by decide) (by decide) 6 rfl _ (store6 (k0_pay6 (lo 0)) (k0_pay7 (hi 0)) _)
  | 7 => exact H 0 3 1 (by decide) (by decide) 7 rfl _ (store7 (k0_pay6 (lo 0)) (k0_pay7 (hi 0)) _)
  | 8 => exact H 1 0 0 (by decide) (by decide) 8 rfl _ (store8 (lo 1) (hi 1) _)
  | 9 => exact H 1 0 1 (by decide) (by decide) 9 rfl _ (store9 (lo 1) (hi 1) _)
  | 10 => exact H 1 1 0 (by decide) (by decide) 10 rfl _ (store10 (k0_pay24 (lo 1)) (k0_pay25 (hi 1)) _)
  | 11 => exact H 1 1 1 (by decide) (by decide) 11 rfl _ (store11 (k0_pay24 (lo 1)) (k0_pay25 (hi 1)) _)
  | 12 => exact H 1 2 0 (by decide) (by decide) 12 rfl _ (store12 (k0_pay24 (lo 1)) (k0_pay25 (hi 1)) _)
  | 13 => exact H 1 2 1 (by decide) (by decide) 13 rfl _ (store13 (k0_pay24 (lo 1)) (k0_pay25 (hi 1)) _)
  | 14 => exact H 1 3 0 (by decide) (by decide) 14 rfl _ (store14 (k0_pay24 (lo 1)) (k0_pay25 (hi 1)) _)
  | 15 => exact H 1 3 1 (by decide) (by decide) 15 rfl _ (store15 (k0_pay24 (lo 1)) (k0_pay25 (hi 1)) _)
  | ⟨n + 16, hn⟩ => exact absurd hn (by omega)

local notation "𝕄G" => MT nD τ sig Unit (Elt F) ℕ (UR sig nD τ) ℕ

set_option maxHeartbeats 1600000 in
/-- One trip: with the rows below `256 k` decoded before it, the rows below `256 (k + 1)` are decoded after it. -/
theorem trip (𝒱 : Variants) (c : Dev nD) (bd : Option 𝒱.V) (E : Set ℕ)
    (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (k0_h1 : k0_cond1 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg9 : BufTy.Contents (Elt F) arg9.view.ty)
    (f_arg10 : BufTy.Contents (Elt F) arg10.view.ty) (k : Fin k0_t1_loop.trips)
    (hrows : RowsTo arg2 arg3 arg4 arg5 arg10 X_arg2 X_arg3 X_arg4 X_arg5 (k.val) f_arg10) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} f_arg9) ∗ (arg10.view.loc (c : Thread nD τ) ↦[arg10.view.set]{fullShare} f_arg10)) : sProp 𝕄G)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 k0_h1 k PUnit.unit)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f, (arg9.view.loc (c : Thread nD τ) ↦[arg9.view.set]{fullShare} f))
            ∗ (∃ f, (arg10.view.loc (c : Thread nD τ) ↦[arg10.view.set]{fullShare} f) ∗ ⌜RowsTo arg2 arg3 arg4 arg5 arg10 X_arg2 X_arg3 X_arg4 X_arg5 (k.val + 1) f⌝))) := by
  have hk : k.val < 35 := Nat.lt_of_lt_of_le k.isLt k0_t1_abs.2.1
  unfold k0_t1_body
  iintro ⟨HR_arg2, HR_arg3, HR_arg4, HR_arg5, HW_arg9, HW_arg10⟩
  sl_exec
  sl_step
  isplitl [HR_arg2]; · iexact HR_arg2
  isplitl [HR_arg3]; · iexact HR_arg3
  isplitl [HR_arg4]; · iexact HR_arg4
  isplitl [HR_arg5]; · iexact HR_arg5
  isplitl [HW_arg9]
  · iexists _; iexact HW_arg9
  iexists _
  isplitl [HW_arg10]; · iexact HW_arg10
  ipureintro
  exact rows_trip arg2 arg3 arg4 arg5 arg9 arg10 X_arg2 X_arg3 X_arg4 X_arg5 ⟨k.val, hk⟩ f_arg10
    (fun g => k0_off5 k (BitVec.ofNat 32 (16 * g.val))) (fun g => by rw [k0_off5_eq]; exact inb_rows ⟨k.val, hk⟩ g) (fun g => k0_off5_eq k g)
    ![_, _] ![_, _] _ _
    (Fin.forall_fin_two.2 ⟨lo_read arg2 X_arg2 ⟨k.val, hk⟩ 0 _ _ (k0_off3_eq k), lo_read arg2 X_arg2 ⟨k.val, hk⟩ 1 _ _ (k0_off6_eq k)⟩)
    (Fin.forall_fin_two.2 ⟨hi_read arg3 X_arg3 ⟨k.val, hk⟩ 0 _ _ (k0_off4_eq k), hi_read arg3 X_arg3 ⟨k.val, hk⟩ 1 _ _ (k0_off7_eq k)⟩)
    (sc_read arg4 X_arg4 ⟨k.val, hk⟩ _ _ (k0_off2_eq k)) (d_read arg5 X_arg5 ⟨k.val, hk⟩ _ _ (k0_off1_eq k)) hrows

/-- The loop by its invariant: before trip `k` the packed arrays are as they were, the scale scratch holds anything, and the
    weight scratch holds the decoded weights in its rows below `256 k`. -/
abbrev loopAt (c : Dev nD) (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (k0_h1 : k0_cond1 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f, (arg9.view.loc (c : Thread nD τ) ↦[arg9.view.set]{fullShare} f))
    ∗ (∃ f, (arg10.view.loc (c : Thread nD τ) ↦[arg10.view.set]{fullShare} f) ∗ ⌜RowsTo arg2 arg3 arg4 arg5 arg10 X_arg2 X_arg3 X_arg4 X_arg5 (k) f⌝))

set_option warn.classDefReducibility false in
@[sl_loop] def loopInv (𝒱 : Variants) (c : Dev nD) (bd : Option 𝒱.V) (E : Set ℕ)
    (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (k0_h1 : k0_cond1 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    Idealize.ShloMosaic.LoopInv (M := MT nD τ sig Unit (Elt F) ℕ (UR sig nD τ) ℕ) Idealize.ShloMosaic.frame
      (wpE defs₀ 𝒱 (c : Thread nD τ) bd) E k0_t1_loop.lb k0_t1_loop.ub k0_t1_loop.st (k0_t1_ok i k0_h1) ()
      (k0_t1_body (F := F) i arg1 harg1 arg2 harg2 arg3 harg3 arg4 harg4 arg5 harg5 arg6 harg6 arg7 harg7 arg8 harg8 arg9 harg9 arg10 harg10 arg11 harg11 k0_h1) where
  inv := loopAt (F := F) c i arg1 harg1 arg2 harg2 arg3 harg3 arg4 harg4 arg5 harg5 arg6 harg6 arg7 harg7 arg8 harg8 arg9 harg9 arg10 harg10 arg11 harg11 k0_h1 X_arg2 X_arg3 X_arg4 X_arg5
  step k acc := by
    iintro ⟨HR_arg2, HR_arg3, HR_arg4, HR_arg5, ⟨%f_arg9, HW_arg9⟩, ⟨%f_arg10, HW_arg10, %h_arg10⟩⟩
    iapply (trip (F := F) 𝒱 c bd E i arg1 harg1 arg2 harg2 arg3 harg3 arg4 harg4 arg5 harg5 arg6 harg6 arg7 harg7 arg8 harg8 arg9 harg9 arg10 harg10 arg11 harg11 k0_h1 X_arg2 X_arg3 X_arg4 X_arg5 f_arg9 f_arg10 k h_arg10)
    isplitl [HR_arg2]; · iexact HR_arg2
    isplitl [HR_arg3]; · iexact HR_arg3
    isplitl [HR_arg4]; · iexact HR_arg4
    isplitl [HR_arg5]; · iexact HR_arg5
    isplitl [HW_arg9]; · iexact HW_arg9
    iexact HW_arg10

end Cert.KernelIdeal.Run

end
-- ==== Proof.BodyIdeal.lean ====
/- The kernel body at one grid point, run: what it leaves in the output block and in the weight scratch. -/
module

public import proofs.«01_k».proof.Proof.Gen.KernelIdeal.Frame
public import proofs.«01_k».proof.Proof.TripIdeal

@[expose] public section

set_option maxRecDepth 16384

noncomputable section

namespace Cert.KernelIdeal.Run

open Cert.KernelIdeal Cert.KernelIdeal.Gen Cert.Codes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem trips_eq : k0_t1_loop.trips = 35 := by decide

/-- After the last trip every row is decoded. -/
theorem rows_all (arg2 : Memref sig .tc .vmem S35x2x64x1536 .i8) (arg3 : Memref sig .tc .vmem S35x2x32x1536 .i8)
    (arg4 : Memref sig .tc .vmem S35x16x1536 .i8) (arg5 : Memref sig .tc .vmem S35x1536 .f16)
    (arg10 : Memref sig .tc .vmem S8960x1536 .bf16) {X_arg2 X_arg3 X_arg4 X_arg5} {x1 : Vec F S35x2x64x1536 .i8}
    {x2 : Vec F S35x2x32x1536 .i8} {x3 : Vec F S35x16x1536 .i8} {x4 : Vec F S35x1536 .f16}
    (h1 : arg2.view.read (Elt F) X_arg2 = x1) (h2 : arg3.view.read (Elt F) X_arg3 = x2)
    (h3 : arg4.view.read (Elt F) X_arg4 = x3) (h4 : arg5.view.read (Elt F) X_arg5 = x4)
    (f : BufTy.Contents (Elt F) arg10.view.ty)
    (h : RowsTo arg2 arg3 arg4 arg5 arg10 X_arg2 X_arg3 X_arg4 X_arg5 k0_t1_loop.trips f) :
    arg10.view.read (Elt F) f = decoded x1 x2 x3 x4 := by
  subst h1 h2 h3 h4
  funext y
  have hy : (y 0).val < 8960 := (y 0).isLt
  exact h y (by rw [trips_eq]; omega)

set_option maxHeartbeats 1600000 in
/-- At the first point the body decodes the weights and leaves the normalized rows times them. -/
theorem bodyA (c : Dev nD) (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (hc0 : k0_cond1 i = 1#1)
    (x0 : Vec F S256x8960 .bf16) (x1 : Vec F S35x2x64x1536 .i8) (x2 : Vec F S35x2x32x1536 .i8) (x3 : Vec F S35x16x1536 .i8)
    (x4 : Vec F S35x1536 .f16) (x5 : Vec F S1x8960 .f32) (x6 : Vec F S1x1536 .f32) (E : Set ℕ) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay4 (k0_pay3 x0 x5) (decoded x1 x2 x3 x4) x6) ∗ (∃ d, owns (c : Thread nD τ) arg9 fullShare d) ∗ owns (c : Thread nD τ) arg10 fullShare (decoded x1 x2 x3 x4) ∗ (∃ d, owns (c : Thread nD τ) arg11 fullShare d)) -∗ K ⟨⟩))
      ⊢ wp frame (wpE (defs₀ (F := F)) Variants.none c none) E (cc0_q6k_rmsnorm_linear i arg1 harg1 arg2 harg2 arg3 harg3 arg4 harg4 arg5 harg5 arg6 harg6 arg7 harg7 arg8 harg8 arg9 harg9 arg10 harg10 arg11 harg11) K := by
  simp only [cc0_q6k_rmsnorm_linear_eq_skeleton]; unfold cc0_q6k_rmsnorm_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  have hrows0 : RowsTo arg2 arg3 arg4 arg5 arg10 (harg2.unread x1) (harg3.unread x2) (harg4.unread x3) (harg5.unread x4) 0 fs1 :=
    fun y hy => absurd hy (by omega)
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full arg8.view f7 _ _ []).trans (congr (congrArg₂ k0_pay4 ?_ ?_) ?_)
    · refine (View.readCov_full arg11.view _ _ _ []).trans (congrArg₂ k0_pay3 ?_ ?_)
      · exact (View.readAt_full arg1.view _ _).trans (harg1.read_unread _)
      · exact (View.readAt_full arg6.view _ _).trans (harg6.read_unread _)
    · exact (View.readAt_full arg10.view _ _).trans (rows_all _ _ _ _ _ hf1 hf2 hf3 hf4 _ ‹_›)
    · exact (View.readAt_full arg7.view _ _).trans (harg7.read_unread _)
  isplitl [HS0]
  · iexists _, _; isplitr; swap; · iexact HS0
    ipureintro; rfl
  isplitl [HS1]
  · iexists _; isplitr; swap; · iexact HS1
    ipureintro; exact (rows_all _ _ _ _ _ hf1 hf2 hf3 hf4 _ ‹_›)
  iexists _, _; isplitr; swap; · iexact HS2
  ipureintro; rfl

set_option maxHeartbeats 1600000 in
/-- At a later point the body uses the weights that the scratch holds. -/
theorem bodyB (c : Dev nD) (i : grid0.Coords) (arg1 : Memref sig .tc .vmem S256x8960 .bf16) (harg1 : arg1.IsWhole) (arg2 : Memref sig .tc .vmem S35x2x64x1536 .i8) (harg2 : arg2.IsWhole) (arg3 : Memref sig .tc .vmem S35x2x32x1536 .i8) (harg3 : arg3.IsWhole) (arg4 : Memref sig .tc .vmem S35x16x1536 .i8) (harg4 : arg4.IsWhole) (arg5 : Memref sig .tc .vmem S35x1536 .f16) (harg5 : arg5.IsWhole) (arg6 : Memref sig .tc .vmem S1x8960 .f32) (harg6 : arg6.IsWhole) (arg7 : Memref sig .tc .vmem S1x1536 .f32) (harg7 : arg7.IsWhole) (arg8 : Memref sig .tc .vmem S256x1536 .bf16) (harg8 : arg8.IsWhole) (arg9 : Memref sig .tc .vmem S16x1536 .f32) (harg9 : arg9.IsWhole) (arg10 : Memref sig .tc .vmem S8960x1536 .bf16) (harg10 : arg10.IsWhole) (arg11 : Memref sig .tc .vmem S256x8960 .bf16) (harg11 : arg11.IsWhole) (hc0 : ¬ k0_cond1 i = 1#1)
    (x0 : Vec F S256x8960 .bf16) (x1 : Vec F S35x2x64x1536 .i8) (x2 : Vec F S35x2x32x1536 .i8) (x3 : Vec F S35x16x1536 .i8)
    (x4 : Vec F S35x1536 .f16) (x5 : Vec F S1x8960 .f32) (x6 : Vec F S1x1536 .f32) (w : Vec F S8960x1536 .bf16) (E : Set ℕ) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare w ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay4 (k0_pay3 x0 x5) w x6) ∗ (∃ d, owns (c : Thread nD τ) arg9 fullShare d) ∗ owns (c : Thread nD τ) arg10 fullShare w ∗ (∃ d, owns (c : Thread nD τ) arg11 fullShare d)) -∗ K ⟨⟩))
      ⊢ wp frame (wpE (defs₀ (F := F)) Variants.none c none) E (cc0_q6k_rmsnorm_linear i arg1 harg1 arg2 harg2 arg3 harg3 arg4 harg4 arg5 harg5 arg6 harg6 arg7 harg7 arg8 harg8 arg9 harg9 arg10 harg10 arg11 harg11) K := by
  simp only [cc0_q6k_rmsnorm_linear_eq_skeleton]; unfold cc0_q6k_rmsnorm_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full arg8.view f7 _ _ []).trans (congr (congrArg₂ k0_pay4 ?_ ?_) ?_)
    · refine (View.readCov_full arg11.view _ _ _ []).trans (congrArg₂ k0_pay3 ?_ ?_)
      · exact (View.readAt_full arg1.view _ _).trans (harg1.read_unread _)
      · exact (View.readAt_full arg6.view _ _).trans (harg6.read_unread _)
    · exact (View.readAt_full arg10.view _ _).trans hfs1
    · exact (View.readAt_full arg7.view _ _).trans (harg7.read_unread _)
  isplitl [HS0]
  · iexists _, _; isplitr; swap; · iexact HS0
    ipureintro; rfl
  isplitl [HS1]
  · iexists _; isplitr; swap; · iexact HS1
    ipureintro; exact hfs1
  iexists _, _; isplitr; swap; · iexact HS2
  ipureintro; rfl

end Cert.KernelIdeal.Run

end
-- ==== Proof.FrameIdeal.lean ====
/- The frame of the kernel: the pipeline's proof data, with the output block and the weight scratch at stated contents, the
   body's obligation at every grid point, the run, and the claim that the arguments end unchanged. -/
module

public import proofs.«01_k».proof.Proof.BodyIdeal
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, k0_cond1, e0]
    word_cmp
   : ∀ t : Fin grid0.N, cond0_0 (grid0.coords t) ↔ t.val % 48 = 0)

/-- Each window's current staging memref at point `t`, spelled as the pipeline passes it (`bodyAt0`), and its wholeness. -/
abbrev ms0_0 (t : Fin cfg0.N) : Memref sig .tc .vmem S256x8960 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S35x2x64x1536 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S35x2x32x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S35x16x1536 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S35x1536 .f16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8960 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1536 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x1536 .f32 := Memref.whole cc0_scratch0
abbrev scM0_1 : Memref sig .tc .vmem S8960x1536 .bf16 := Memref.whole cc0_scratch1
abbrev scM0_2 : Memref sig .tc .vmem S256x8960 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The weights the first point decodes and every later point finds in the scratch. -/
def weights (c : Dev nD) : Vec F S8960x1536 .bf16 :=
  decoded (iblk m c 1 ⟨0, by decide⟩) (iblk m c 2 ⟨0, by decide⟩) (iblk m c 3 ⟨0, by decide⟩) (iblk m c 4 ⟨0, by decide⟩)

/-- What the body leaves in the output block at point `t`. -/
def outAt (c : Dev nD) (t : Fin cfg0.N) : Vec F S256x1536 .bf16 :=
  k0_pay4 (k0_pay3 (iblk m c 0 t) (iblk m c 5 t)) (weights m c) (iblk m c 6 t)

/-- The region invariant before position `n` with a scratch the kernel CARRIES between points: before the first point the
    class's (Lib/Pipeline/Frame.lean `ΦA`: every scratch at anything); afterwards the scoped rest with each carried scratch
    at what the point before left in it (`weights`), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (weights m c) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (weights m c) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (weights m c) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outAt`; the invariant the class's
    (`PhiS`: the class's `ΦA` before the first point, then the scoped rest with the carried scratch at `weights`);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases hz : t.val = 0
    · rw [PhiS_castSucc m c t, PhiS_zero m c _ _ hz, PhiA0_eq]
      obtain rfl : t = ⟨0, by decide⟩ := Fin.ext hz
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyA c (grid0.coords _) _ _ _ _ _ _ _ _ _ _ _ _ _ _ _ _ _ _ _ _ _ _ ((hcond0_0 _).mpr h0) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; have hN : t.val < 48 := lt_of_lt_of_eq t.isLt (show cfg0.N = 48 from N_0); omega
  · by_cases hz : t.val = 0
    · exfalso; have hN : t.val < 48 := lt_of_lt_of_eq t.isLt (show cfg0.N = 48 from N_0); omega
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyB c (grid0.coords t) _ _ _ _ _ _ _ _ _ _ _ _ _ _ _ _ _ _ _ _ _ _ (fun h => h0 ((hcond0_0 t).mp h)) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim at any values: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Run

end
-- ==== Proof.Plain.lean ====
/- The mathematics both programs compute, at the ideal values, over plain functions of coordinates. Nothing here mentions
   a program. -/
module

public import Idealize.ShloMosaic.Lib.Pointwise
public import proofs.«01_k».proof.Proof.Codes

@[expose] public section

noncomputable section

namespace Cert.Plain

open Idealize.ShloMosaic Cert.Codes

/-- Entry `e` of a normalized row: the row over its root mean square, times the gain. -/
def normal (x g : Fin 8960 → EReal) (e : Fin 8960) : EReal :=
  x e * Ideal.rsqrt (Ideal.div (∑ k, x k * x k) (Ideal.ofBits .f32 0x460C0000#32) + Ideal.ofBits .f32 0x358637BD#32) * g e

/-- An entry of the result: a normalized row times a row of weights, and a bias. -/
def linear (x g w : Fin 8960 → EReal) (b : EReal) : EReal := (∑ e, normal x g e * w e) + b

/-- The code of field `f` computed at 32 bits: `lo` is the field's nibble's byte and `hi` the byte of high bits. -/
def code32 (f : Nat) (lo hi : BitVec 8) : BitVec 32 :=
  IntOp.ori
    (if f < 2 then IntOp.andi (lo.setWidth 32) 15#32 else IntOp.shrsi .host (lo.setWidth 32) 4#32)
    (IntOp.shli .host (IntOp.andi (IntOp.shrsi .host (hi.setWidth 32) (IntOp.muli (BitVec.ofNat 32 f) 2#32)) 3#32) 4#32)

/-- Shifting a widened byte right copies no sign. -/
theorem sshiftRight_widened (x : BitVec 8) (k : Nat) : (x.setWidth 32).sshiftRight k = (x.setWidth 32) >>> k :=
  BitVec.sshiftRight_eq_of_msb_false (by simp [BitVec.msb_setWidth])

/-- It is the code computed at eight bits, widened. -/
theorem code32_eq {f : Nat} (hf : f < 4) (lo hi : BitVec 8) : code32 f lo hi = (codeByte f lo hi).setWidth 32 := by
  apply BitVec.eq_of_getLsbD_eq
  intro q hq
  simp only [code32, codeByte, IntOp.ori, IntOp.andi, IntOp.shrsi, IntOp.shli, IntOp.muli]
  interval_cases f <;> interval_cases q <;> simp [BitVec.sshiftRight', sshiftRight_widened]

/-- A code is below 64, so its two signed readings are one number. -/
theorem code32_toInt {f : Nat} (hf : f < 4) (lo hi : BitVec 8) : (code32 f lo hi).toInt = (codeByte f lo hi).toInt := by
  have hm : (codeByte f lo hi).getLsbD 7 = false := by
    simp only [codeByte]
    interval_cases f <;> simp
  have h8 : (codeByte f lo hi).msb = false := by rw [BitVec.msb_eq_getLsbD_last]; exact hm
  have hlt : (codeByte f lo hi).toNat < 128 := by
    have := BitVec.msb_eq_false_iff_two_mul_lt.mp h8; omega
  rw [code32_eq hf, BitVec.toInt_eq_toNat_of_msb h8, BitVec.toInt_eq_toNat_of_lt, BitVec.toNat_setWidth]
  · rw [Nat.mod_eq_of_lt (by omega)]
  · rw [BitVec.toNat_setWidth, Nat.mod_eq_of_lt (by omega)]; omega

/-- A weight: the code less 32, times the factor times the group's scale. -/
def weight (f : Nat) (lo hi sc : BitVec 8) (d : EReal) : EReal :=
  ((FloatOps.sitofp .bf16 (codeByte f lo hi) : Ideal .bf16) - Ideal.ofBits .bf16 0x4200#16)
    * (d * (FloatOps.sitofp .f32 sc : Ideal .f32))

/-- The same from the code at 32 bits. -/
theorem weight_of32 {f : Nat} (hf : f < 4) (lo hi sc : BitVec 8) (d : EReal) :
    ((FloatOps.sitofp .bf16 (code32 f lo hi) : Ideal .bf16) - Ideal.ofBits .bf16 0x4200#16)
      * (d * (FloatOps.sitofp .f32 sc : Ideal .f32)) = weight f lo hi sc d := by
  have e : (FloatOps.sitofp .bf16 (code32 f lo hi) : Ideal .bf16) = FloatOps.sitofp .bf16 (codeByte f lo hi) := by
    show (((code32 f lo hi).toInt : ℝ) : EReal) = (((codeByte f lo hi).toInt : ℝ) : EReal)
    rw [code32_toInt hf]
  rw [weight, e]

/-- The weight of input feature `e` from the bytes of an output feature's rows: feature `e` lies in block `e / 256`, half
    `e / 128 % 2`, field `e / 32 % 4` and scale group `e / 16 % 16`. -/
def weightRow (ql : Fin 35 → Fin 2 → Fin 64 → BitVec 8) (qh : Fin 35 → Fin 2 → Fin 32 → BitVec 8)
    (sc : Fin 35 → Fin 16 → BitVec 8) (d : Fin 35 → EReal) (e : Fin 8960) : EReal :=
  weight (e.val / 32 % 4) (ql ⟨e.val / 256, by omega⟩ ⟨e.val / 128 % 2, by omega⟩ ⟨e.val % 64, by omega⟩)
    (qh ⟨e.val / 256, by omega⟩ ⟨e.val / 128 % 2, by omega⟩ ⟨e.val % 32, by omega⟩)
    (sc ⟨e.val / 256, by omega⟩ ⟨e.val / 16 % 16, by omega⟩) (d ⟨e.val / 256, by omega⟩)

/-- The result from the arguments: entry `(r, o)` is normalized row `r` times output feature `o`'s weights, and its bias. -/
def result (x : (⟨3, ![3, 4096, 8960]⟩ : Shape).Idx → EReal) (ql : (⟨4, ![1536, 35, 2, 64]⟩ : Shape).Idx → BitVec 8)
    (qh : (⟨4, ![1536, 35, 2, 32]⟩ : Shape).Idx → BitVec 8) (sc : (⟨3, ![1536, 35, 16]⟩ : Shape).Idx → BitVec 8)
    (d : (⟨2, ![1536, 35]⟩ : Shape).Idx → EReal) (g : (⟨1, ![8960]⟩ : Shape).Idx → EReal)
    (b : (⟨1, ![1536]⟩ : Shape).Idx → EReal) (r : Fin 12288) (o : Fin 1536) : EReal :=
  linear (fun k => x (ix3 ⟨r.val / 4096, by omega⟩ ⟨r.val % 4096, by omega⟩ k)) (fun k => g (ix1 k))
    (weightRow (fun n h c => ql (ix4 o n h c)) (fun n h c => qh (ix4 o n h c)) (fun n t => sc (ix3 o n t)) fun n => d (ix2 o n))
    (b (ix1 o))

end Cert.Plain

end
-- ==== Proof.ValueIdeal.lean ====
/- The kernel's result array at the ideal values, entry by entry. -/
module

public import proofs.«01_k».proof.Proof.FrameIdeal
public import proofs.«01_k».proof.Proof.Plain
public import Idealize.ShloMosaic.Lib.StableHlo.Run
public import Idealize.ShloMosaic.Lib.Pipeline.Value
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.StableHlo
open Idealize.ShloMosaic.Pipeline (Dat)

/-! ## The payloads -/

/-- The normalized block. -/
theorem pay3_apply (x : Vec Ideal S256x8960 .bf16) (g : Vec Ideal S1x8960 .f32) (r : Fin 256) (e : Fin 8960) :
    k0_pay3 x g (ix2 r e) = Cert.Plain.normal (fun k => x (ix2 r k)) (fun k => g (ix2 0 k)) e := by
  unfold Cert.Plain.normal
  pointwise [k0_pay3]

/-- The product of the normalized block and the weights, and the bias. -/
theorem pay4_apply (h : Vec Ideal S256x8960 .bf16) (w : Vec Ideal S8960x1536 .bf16) (b : Vec Ideal S1x1536 .f32) (r : Fin 256)
    (o : Fin 1536) : k0_pay4 h w b (ix2 r o) = (∑ e, h (ix2 r e) * w (ix2 e o)) + b (ix2 0 o) := by
  pointwise [k0_pay4]

/-! ## The arrays the windows read -/

variable {F : FTy → Type} [FloatOps F]
variable (m : (ℓ : Loc nD τ sig) → Buf (Elt F) ℓ)

theorem V_v0 (c : Dev nD) (n : Fin 35) (h : Fin 2) (b : Fin 64) (o : Fin 1536) :
    (V m c main_v0 : Vec F S35x2x64x1536 .i8) (ix4 n h b o) = (m ((c : Thread nD τ).loc main_arg1) : Vec F S1536x35x2x64 .i8) (ix4 o n h b) := by
  unfold V hostOps0
  after_results
  pointwise
theorem V_v1 (c : Dev nD) (n : Fin 35) (h : Fin 2) (b : Fin 32) (o : Fin 1536) :
    (V m c main_v1 : Vec F S35x2x32x1536 .i8) (ix4 n h b o) = (m ((c : Thread nD τ).loc main_arg2) : Vec F S1536x35x2x32 .i8) (ix4 o n h b) := by
  unfold V hostOps0
  after_results
  pointwise
theorem V_v2 (c : Dev nD) (n : Fin 35) (t : Fin 16) (o : Fin 1536) :
    (V m c main_v2 : Vec F S35x16x1536 .i8) (ix3 n t o) = (m ((c : Thread nD τ).loc main_arg3) : Vec F S1536x35x16 .i8) (ix3 o n t) := by
  unfold V hostOps0
  after_results
  pointwise
theorem V_v3 (c : Dev nD) (n : Fin 35) (o : Fin 1536) :
    (V m c main_v3 : Vec F S35x1536 .f16) (ix2 n o) = (m ((c : Thread nD τ).loc main_arg4) : Vec F S1536x35 .f16) (ix2 o n) := by
  unfold V hostOps0
  after_results
  pointwise
theorem V_v4 (c : Dev nD) (k : Fin 8960) :
    (V m c main_v4 : Vec F S1x8960 .f32) (ix2 0 k) = (m ((c : Thread nD τ).loc main_arg5) : Vec F S8960 .f32) (ix1 k) := by
  unfold V hostOps0
  after_results
  pointwise
theorem V_v5 (c : Dev nD) (o : Fin 1536) :
    (V m c main_v5 : Vec F S1x1536 .f32) (ix2 0 o) = (m ((c : Thread nD τ).loc main_arg6) : Vec F S1536 .f32) (ix1 o) := by
  unfold V hostOps0
  after_results
  pointwise
theorem V_v6 (c : Dev nD) (r : Fin 12288) (k : Fin 8960) :
    (V m c main_v6 : Vec F S12288x8960 .bf16) (ix2 r k) = (m ((c : Thread nD τ).loc main_arg0) : Vec F S3x4096x8960 .bf16)
      (ix3 ⟨r.val / 4096, by omega⟩ ⟨r.val % 4096, by omega⟩ k) := by
  unfold V hostOps0
  after_results
  pointwise

/-! ## The blocks -/

theorem index_0 : ∀ t : Fin cfg0.N, win0_0.index t = ![t.val, 0] := (by decide +kernel : ∀ t : Fin grid0.N, win0_0.index t = ![t.val, 0])
theorem index_7 : ∀ t : Fin cfg0.N, win0_7.index t = ![t.val, 0] := (by decide +kernel : ∀ t : Fin grid0.N, win0_7.index t = ![t.val, 0])

/-- Block `t` of the rows is rows `256 t` and on. -/
theorem iblk_0 (c : Dev nD) (t : Fin cfg0.N) (r : Fin 256) (k : Fin 8960) (R : Fin 12288) (hR : R.val = 256 * t.val + r.val) :
    (iblk m c 0 t : Vec F S256x8960 .bf16) (ix2 r k) = (V m c main_v6 : Vec F S12288x8960 .bf16) (ix2 R k) := by
  blk_simp [iblk]
  congr 1
  blk_ext [index_0]

/-- Window 1's block is its whole array, at every point. -/
theorem iblk_1 (c : Dev nD) (t : Fin cfg0.N) : (iblk m c 1 t : Vec F S35x2x64x1536 .i8) = V m c main_v0 := by
  funext y
  blk_simp [iblk]
  congr 1
  blk_ext [show win0_1.index t = ![0, 0, 0, 0] from rfl]
/-- Window 2's block is its whole array, at every point. -/
theorem iblk_2 (c : Dev nD) (t : Fin cfg0.N) : (iblk m c 2 t : Vec F S35x2x32x1536 .i8) = V m c main_v1 := by
  funext y
  blk_simp [iblk]
  congr 1
  blk_ext [show win0_2.index t = ![0, 0, 0, 0] from rfl]
/-- Window 3's block is its whole array, at every point. -/
theorem iblk_3 (c : Dev nD) (t : Fin cfg0.N) : (iblk m c 3 t : Vec F S35x16x1536 .i8) = V m c main_v2 := by
  funext y
  blk_simp [iblk]
  congr 1
  blk_ext [show win0_3.index t = ![0, 0, 0] from rfl]
/-- Window 4's block is its whole array, at every point. -/
theorem iblk_4 (c : Dev nD) (t : Fin cfg0.N) : (iblk m c 4 t : Vec F S35x1536 .f16) = V m c main_v3 := by
  funext y
  blk_simp [iblk]
  congr 1
  blk_ext [show win0_4.index t = ![0, 0] from rfl]
/-- Window 5's block is its whole array, at every point. -/
theorem iblk_5 (c : Dev nD) (t : Fin cfg0.N) : (iblk m c 5 t : Vec F S1x8960 .f32) = V m c main_v4 := by
  funext y
  blk_simp [iblk]
  congr 1
  blk_ext [show win0_5.index t = ![0, 0] from rfl]
/-- Window 6's block is its whole array, at every point. -/
theorem iblk_6 (c : Dev nD) (t : Fin cfg0.N) : (iblk m c 6 t : Vec F S1x1536 .f32) = V m c main_v5 := by
  funext y
  blk_simp [iblk]
  congr 1
  blk_ext [show win0_6.index t = ![0, 0] from rfl]

/-! ## The result -/

section Value

variable (m : (ℓ : Loc nD τ sig) → Buf (Elt Ideal) ℓ) (ρ : Dev nD → PrngReg)

/-- An entry of the decoded weights. -/
theorem weights_apply (c : Dev nD) (e : Fin 8960) (o : Fin 1536) : weights m c (ix2 e o)
    = Cert.Plain.weightRow (fun n h b => (m ((c : Thread nD τ).loc main_arg1) : Vec Ideal S1536x35x2x64 .i8) (ix4 o n h b))
      (fun n h b => (m ((c : Thread nD τ).loc main_arg2) : Vec Ideal S1536x35x2x32 .i8) (ix4 o n h b))
      (fun n t => (m ((c : Thread nD τ).loc main_arg3) : Vec Ideal S1536x35x16 .i8) (ix3 o n t))
      (fun n => (m ((c : Thread nD τ).loc main_arg4) : Vec Ideal S1536x35 .f16) (ix2 o n)) e := by
  unfold weights
  rw [iblk_1, iblk_2, iblk_3, iblk_4]
  refine (decoded_at _ _ _ _ (ix2 e o) ⟨e.val / 256, by omega⟩ ⟨e.val / 128 % 2, by omega⟩ _ ⟨e.val % 64, by omega⟩
    ⟨e.val % 32, by omega⟩ ⟨e.val / 16 % 16, by omega⟩ o rfl rfl rfl rfl rfl rfl rfl).trans ?_
  rw [V_v0, V_v1, V_v2, V_v3]
  rfl

/-- An entry of the block that point `t` writes. -/
theorem outAt_apply (c : Dev nD) (t : Fin cfg0.N) (r : Fin 256) (o : Fin 1536) (R : Fin 12288) (hR : R.val = 256 * t.val + r.val) :
    outAt m c t (ix2 r o) = Cert.Plain.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) R o := by
  unfold outAt Cert.Plain.result Cert.Plain.linear
  rw [pay4_apply, iblk_6, V_v5]
  simp only [pay3_apply, weights_apply, iblk_0 m c t r _ R hR, iblk_5]
  rw [funext fun k => V_v6 m c R k, funext fun k => V_v4 m c k]

/-- The whole result array. -/
def out (c : Dev nD) : Buf (Elt Ideal) ((c : Thread nD τ).loc main_v7) :=
  (fun y => Cert.Plain.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (y 0) (y 1) : Vec Ideal S12288x1536 .bf16)

/-- The blocks written are the blocks of `out`, and they cover the array. -/
theorem final (c : Dev nD) : (dats m 0 c).arrAt 7 cfg0.N = out m c := by
  refine (dats m 0 c).arrAt_eq_of_covers 7 _ (by decide +kernel) fun t hf y => ?_
  blk_simp
  rw [after0_7]
  have ht : t.val < 48 := Nat.lt_of_lt_of_eq t.isLt N_0
  have h0 : (y 0).val < 256 := (y 0).isLt
  have h1 : (y 1).val < 1536 := (y 1).isLt
  have ey : y = ix2 ⟨(y 0).val, h0⟩ ⟨(y 1).val, h1⟩ := by funext a; match a with | ⟨0, _⟩ => rfl | ⟨1, _⟩ => rfl
  have ee : (win0_7.blk t).view.emb y = (ix2 ⟨256 * t.val + (y 0).val, by omega⟩ ⟨(y 1).val, h1⟩ : S12288x1536.Idx) := by
    blk_ext [index_7]
  refine Eq.trans ?_ (congrArg (out m c) ee).symm
  refine (congrArg (outAt m c t) ey).trans ?_
  exact outAt_apply m c t _ _ ⟨256 * t.val + (y 0).val, by omega⟩ rfl

/-- The run: the result array ends at `out`, the arguments unchanged. -/
theorem value : θ_run defs (onTc (τ := τ) (main (F := Ideal))) ⟨m, fun _ => 0, ρ⟩ (fun r => ∀ c : Dev nD,
      r.2.mem ((c.tc : Thread nD τ).loc main_v7) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (final m c), h.2 c⟩) (θ_run_and (run_main m ρ) (unchanged m ρ))

end Value

end Cert.KernelIdeal.Run

end
-- ==== Proof.ReferenceValue.lean ====
/- The reference's result array at the ideal values, entry by entry. -/
module

public import proofs.«01_k».proof.Proof.Gen.ReferenceIdeal.Frame
public import proofs.«01_k».proof.Proof.Plain
public import Idealize.ShloMosaic.Lib.StableHlo.Run
public import Idealize.ShloMosaic.Lib.Pipeline.Value
public import Idealize.ShloMosaic.Lib.Pipeline.ValueKit.Geometry

@[expose] public section

set_option maxRecDepth 16384

noncomputable section

namespace Cert.ReferenceIdeal.Run

open Cert.ReferenceIdeal Cert.ReferenceIdeal.Gen
open Idealize.ShloMosaic Idealize.ShloMosaic.TcCoe Idealize.SL.Sem
open Idealize.ShloMosaic.StableHlo
open Idealize.ShloMosaic.Pipeline (Dat)

/-! ## The payload -/

/-- The weight the reference forms from a code, a scale and a factor. -/
def wide (q : BitVec 32) (sc : BitVec 8) (d : EReal) : EReal :=
  ((FloatOps.sitofp .bf16 q : Ideal .bf16) - Ideal.ofBits .bf16 0x4200#16) * (d * (FloatOps.sitofp .f32 sc : Ideal .f32))

/-- An entry of the result from the operands. -/
theorem pay1_apply (x : Vec Ideal S12288x8960 .bf16) (g : Vec Ideal S8960 .f32) (d : Vec Ideal S1536x35 .f16)
    (sc : Vec Ideal S1536x35x16 .i8) (q : Vec Ideal S1536x35x16x16 .i32) (b : Vec Ideal S1536 .f32) (r : Fin 12288) (o : Fin 1536) :
    k0_pay1 x g d sc q b (ix2 r o) = Cert.Plain.linear (fun k => x (ix2 r k)) (fun k => g (ix1 k))
      (fun e => wide (q (ix4 o ⟨e.val / 256, by omega⟩ ⟨e.val / 16 % 16, by omega⟩ ⟨e.val % 16, by omega⟩))
        (sc (ix3 o ⟨e.val / 256, by omega⟩ ⟨e.val / 16 % 16, by omega⟩)) (d (ix2 o ⟨e.val / 256, by omega⟩))) (b (ix1 o)) := by
  unfold Cert.Plain.linear Cert.Plain.normal wide
  pointwise [k0_pay1]

/-! ## The arrays the kernel reads -/

variable {F : FTy → Type} [FloatOps F]
variable (m : (ℓ : Loc nD τ sig) → Buf (Elt F) ℓ)

/-- The rows. -/
theorem V_v23 (c : Dev nD) (r : Fin 12288) (k : Fin 8960) :
    (V m c main_v23 : Vec F S12288x8960 .bf16) (ix2 r k) = (m ((c : Thread nD τ).loc main_arg0) : Vec F S3x4096x8960 .bf16)
      (ix3 ⟨r.val / 4096, by omega⟩ ⟨r.val % 4096, by omega⟩ k) := by
  unfold V hostOps0
  after_results
  pointwise

/-- The codes: the code of group `s`'s entry `t` is that of its field. -/
theorem V_v22 (c : Dev nD) (o : Fin 1536) (n : Fin 35) (s t : Fin 16) (h : Fin 2) (b : Fin 64) (b' : Fin 32)
    (hh : h.val = s.val / 8) (hb : b.val = (16 * s.val + t.val) % 64) (hb' : b'.val = (16 * s.val + t.val) % 32) :
    (V m c main_v22 : Vec F S1536x35x16x16 .i32) (ix4 o n s t)
      = Cert.Plain.code32 (s.val / 2 % 4) ((m ((c : Thread nD τ).loc main_arg1) : Vec F S1536x35x2x64 .i8) (ix4 o n h b))
        ((m ((c : Thread nD τ).loc main_arg2) : Vec F S1536x35x2x32 .i8) (ix4 o n h b')) := by
  unfold V hostOps0
  after_results
  pointwise
  have hs := s.isLt
  have ht := t.isLt
  have eh : (⟨s.val / 8, by omega⟩ : Fin 2) = h := Fin.ext hh.symm
  have eb' : (⟨s.val % 2 * 16 + t.val, by omega⟩ : Fin 32) = b' := Fin.ext (by dsimp only; omega)
  refine congrArg₂ IntOp.ori ?_ ?_
  · by_cases hf : s.val / 2 % 4 < 2
    · have eb : (⟨s.val / 2 % 4 * 32 + (s.val % 2 * 16 + t.val), by omega⟩ : Fin 64) = b := Fin.ext (by dsimp only; omega)
      refine (dif_pos (by omega)).trans (Eq.trans ?_ (if_pos hf).symm)
      exact congrArg₂ (fun h b => IntOp.andi
        (((m ((c : Thread nD τ).loc main_arg1) : Vec F S1536x35x2x64 .i8) (ix4 o n h b) : BitVec 8).setWidth 32) 15#32) eh eb
    · have eb : (⟨s.val / 2 % 4 * 32 + (s.val % 2 * 16 + t.val) - 64, by omega⟩ : Fin 64) = b :=
        Fin.ext (by dsimp only; omega)
      refine (dif_neg (by omega)).trans (Eq.trans ?_ (if_neg hf).symm)
      exact congrArg₂ (fun h b => IntOp.shrsi .host
        (((m ((c : Thread nD τ).loc main_arg1) : Vec F S1536x35x2x64 .i8) (ix4 o n h b) : BitVec 8).setWidth 32) 4#32) eh eb
  · exact congrArg₂ (fun h b => IntOp.shli .host (IntOp.andi (IntOp.shrsi .host
        (((m ((c : Thread nD τ).loc main_arg2) : Vec F S1536x35x2x32 .i8) (ix4 o n h b) : BitVec 8).setWidth 32)
        (IntOp.muli (BitVec.ofNat 32 (s.val / 2 % 4)) 2#32)) 3#32) 4#32) eh eb'

/-! ## The blocks: each window's one block is its whole array -/

theorem iblk_0 (c : Dev nD) (t : Fin cfg0.N) : (iblk m c 0 t : Vec F S12288x8960 .bf16) = V m c main_v23 := by
  funext y
  exact congrArg (V m c main_v23) (funext fun a => Fin.ext (win0_0.rect_emb_val_of_index_zero t a rfl y))
theorem iblk_1 (c : Dev nD) (t : Fin cfg0.N) : (iblk m c 1 t : Vec F S1536x35x16x16 .i32) = V m c main_v22 := by
  funext y
  exact congrArg (V m c main_v22) (funext fun a => Fin.ext (win0_1.rect_emb_val_of_index_zero t a rfl y))
theorem iblk_2 (c : Dev nD) (t : Fin cfg0.N) : (iblk m c 2 t : Vec F S1536x35x16 .i8) = V m c main_arg3 := by
  funext y
  exact congrArg (V m c main_arg3) (funext fun a => Fin.ext (win0_2.rect_emb_val_of_index_zero t a rfl y))
theorem iblk_3 (c : Dev nD) (t : Fin cfg0.N) : (iblk m c 3 t : Vec F S1536x35 .f16) = V m c main_arg4 := by
  funext y
  exact congrArg (V m c main_arg4) (funext fun a => Fin.ext (win0_3.rect_emb_val_of_index_zero t a rfl y))
theorem iblk_4 (c : Dev nD) (t : Fin cfg0.N) : (iblk m c 4 t : Vec F S8960 .f32) = V m c main_arg5 := by
  funext y
  exact congrArg (V m c main_arg5) (funext fun a => Fin.ext (win0_4.rect_emb_val_of_index_zero t a rfl y))
theorem iblk_5 (c : Dev nD) (t : Fin cfg0.N) : (iblk m c 5 t : Vec F S1536 .f32) = V m c main_arg6 := by
  funext y
  exact congrArg (V m c main_arg6) (funext fun a => Fin.ext (win0_5.rect_emb_val_of_index_zero t a rfl y))

/-! ## The result -/

section Value

variable (m : (ℓ : Loc nD τ sig) → Buf (Elt Ideal) ℓ) (ρ : Dev nD → PrngReg)

/-- What the body leaves in the output's buffer is its payload of the blocks. -/
theorem out_eq (c : Dev nD) (t : Fin cfg0.N) : out0_6 (iblk m c 0 t) (iblk m c 1 t) (iblk m c 2 t) (iblk m c 3 t) (iblk m c 4 t) (iblk m c 5 t)
    = k0_pay1 (V m c main_v23) (V m c main_arg5) (V m c main_arg4) (V m c main_arg3) (V m c main_v22) (V m c main_arg6) := by
  unfold out0_6
  have z1 : (![0] : Fin 1 → Nat) = fun _ => 0 := funext fun a => by fin_cases a <;> rfl
  have z2 : (![0, 0] : Fin 2 → Nat) = fun _ => 0 := funext fun a => by fin_cases a <;> rfl
  have z3 : (![0, 0, 0] : Fin 3 → Nat) = fun _ => 0 := funext fun a => by fin_cases a <;> rfl
  have z4 : (![0, 0, 0, 0] : Fin 4 → Nat) = fun _ => 0 := funext fun a => by fin_cases a <;> rfl
  rw [View.canon_unit_zero z2, View.ld_unit_zero z2, View.ld_unit_zero z1, View.ld_unit_zero z2, View.ld_unit_zero z3,
    View.ld_unit_zero z4, View.ld_unit_zero z1, iblk_0, iblk_1, iblk_2, iblk_3, iblk_4, iblk_5]

/-- The reference's weight at an input feature is the plain one. -/
theorem wide_eq (c : Dev nD) (o : Fin 1536) (e : Fin 8960) :
    wide ((V m c main_v22 : Vec Ideal S1536x35x16x16 .i32) (ix4 o ⟨e.val / 256, by omega⟩ ⟨e.val / 16 % 16, by omega⟩ ⟨e.val % 16, by omega⟩))
      ((m ((c : Thread nD τ).loc main_arg3) : Vec Ideal S1536x35x16 .i8) (ix3 o ⟨e.val / 256, by omega⟩ ⟨e.val / 16 % 16, by omega⟩))
      ((m ((c : Thread nD τ).loc main_arg4) : Vec Ideal S1536x35 .f16) (ix2 o ⟨e.val / 256, by omega⟩))
    = Cert.Plain.weightRow (fun n h b => (m ((c : Thread nD τ).loc main_arg1) : Vec Ideal S1536x35x2x64 .i8) (ix4 o n h b))
      (fun n h b => (m ((c : Thread nD τ).loc main_arg2) : Vec Ideal S1536x35x2x32 .i8) (ix4 o n h b))
      (fun n t => (m ((c : Thread nD τ).loc main_arg3) : Vec Ideal S1536x35x16 .i8) (ix3 o n t))
      (fun n => (m ((c : Thread nD τ).loc main_arg4) : Vec Ideal S1536x35 .f16) (ix2 o n)) e := by
  rw [V_v22 m c o _ _ _ ⟨e.val / 128 % 2, by omega⟩ ⟨e.val % 64, by omega⟩ ⟨e.val % 32, by omega⟩ (by dsimp only; omega)
    (by dsimp only; omega) (by dsimp only; omega)]
  refine (Cert.Plain.weight_of32 (by omega) _ _ _ _).trans ?_
  unfold Cert.Plain.weightRow
  rw [show e.val / 16 % 16 / 2 % 4 = e.val / 32 % 4 by omega]

/-- An entry of what the body leaves. -/
theorem out_apply (c : Dev nD) (t : Fin cfg0.N) (r : Fin 12288) (o : Fin 1536) :
    out0_6 (iblk m c 0 t) (iblk m c 1 t) (iblk m c 2 t) (iblk m c 3 t) (iblk m c 4 t) (iblk m c 5 t) (ix2 r o)
      = Cert.Plain.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) r o := by
  rw [out_eq, V_main_arg3, V_main_arg4, V_main_arg5, V_main_arg6, pay1_apply]
  unfold Cert.Plain.result
  rw [funext fun k => V_v23 m c r k, funext fun e => wide_eq m c o e]

/-- The whole result array. -/
def out (c : Dev nD) : Buf (Elt Ideal) ((c : Thread nD τ).loc main_v24) :=
  (fun y => Cert.Plain.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (y 0) (y 1) : Vec Ideal S12288x1536 .bf16)

/-- The one block written is `out`, and it covers the array. -/
theorem final (c : Dev nD) : (dats m 0 c).arrAt 6 cfg0.N = out m c := by
  refine (dats m 0 c).arrAt_eq_of_covers 6 _ (by decide +kernel) fun t hf y => ?_
  blk_simp
  rw [after0_6]
  have h0 : (y 0).val < 12288 := (y 0).isLt
  have h1 : (y 1).val < 1536 := (y 1).isLt
  have ey : y = ix2 ⟨(y 0).val, h0⟩ ⟨(y 1).val, h1⟩ := by funext a; match a with | ⟨0, _⟩ => rfl | ⟨1, _⟩ => rfl
  have ee : (win0_6.blk t).view.emb y = (ix2 ⟨(y 0).val, h0⟩ ⟨(y 1).val, h1⟩ : S12288x1536.Idx) := by
    funext a
    refine Fin.ext ((win0_6.rect_emb_val_of_index_zero t a rfl y).trans ?_)
    match a with | ⟨0, _⟩ => rfl | ⟨1, _⟩ => rfl
  refine Eq.trans ?_ (congrArg (out m c) ee).symm
  exact (congrArg _ ey).trans (out_apply m c t _ _)

/-- The run: the result array ends at `out`, the arguments unchanged. -/
theorem value : θ_run defs (onTc (τ := τ) (main (F := Ideal))) ⟨m, fun _ => 0, ρ⟩ (fun r => ∀ c : Dev nD,
      r.2.mem ((c.tc : Thread nD τ).loc main_v24) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 6).trans (final m c), h.2 c⟩) (θ_run_and (run_main m ρ) (unchanged m ρ))

end Value

end Cert.ReferenceIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frame
public import proofs.«01_k».proof.Proof.FrameIdeal
public import proofs.«01_k».proof.Proof.ValueIdeal
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- From the same arguments the idealized kernel and the reference both end with one result array: at row `r` and output
    feature `o`, `Cert.Plain.result` of the seven arguments. -/
theorem algebraic : Cert.algebraic_KernelIdeal_ReferenceIdeal := fun m ρ m' ρ' _ hag =>
  ⟨fun c => Cert.KernelIdeal.Run.out m c, Cert.KernelIdeal.Run.value m ρ,
    (θ_run Cert.ReferenceIdeal.defs _ _).mono (fun _ h c => ⟨(h c).1.trans (by
      unfold Cert.ReferenceIdeal.Run.out Cert.KernelIdeal.Run.out
      rw [(hag c).1, (hag c).2.1, (hag c).2.2.1, (hag c).2.2.2.1, (hag c).2.2.2.2.1, (hag c).2.2.2.2.2.1,
        (hag c).2.2.2.2.2.2]), (h c).2⟩) (Cert.ReferenceIdeal.Run.value m' ρ')⟩

/-- The claims of the statement: the kernel, its idealization and the reference each run and leave their arguments
    unchanged with every counter at zero, the idealization is the kernel's own text, and at the ideal values the
    idealization and the reference compute one result. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, algebraic⟩

end Cert.Proof

end
